-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v289) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x768 : Shape := ⟨2, ![32768, 768]⟩
abbrev S768x64 : Shape := ⟨2, ![768, 64]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x768 .f32) (main_arg1 : FVec F S768x64 .f32) (main_arg2 : FVec F S64 .f32) (main_arg3 : FVec F S768x64 .f32) (main_arg4 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_v13 main_v16
-- ==== Kernel.lean ====
abbrev S32768x768 : Shape := ⟨2, ![32768, 768]⟩
abbrev S768x64 : Shape := ⟨2, ![768, 64]⟩
abbrev S64 : Shape := ⟨1, ![64]⟩
abbrev S32768x2 : Shape := ⟨2, ![32768, 2]⟩
abbrev S32768x64 : Shape := ⟨2, ![32768, 64]⟩
abbrev S2048x768 : Shape := ⟨2, ![2048, 768]⟩
abbrev S2048x2 : Shape := ⟨2, ![2048, 2]⟩
abbrev S2048x64 : Shape := ⟨2, ![2048, 64]⟩
abbrev S256x64 : Shape := ⟨2, ![256, 64]⟩
abbrev S128x128 : Shape := ⟨2, ![128, 128]⟩
abbrev S128x64 : Shape := ⟨2, ![128, 64]⟩
abbrev S256x768 : Shape := ⟨2, ![256, 768]⟩
abbrev S1x64 : Shape := ⟨2, ![1, 64]⟩
abbrev S256 : Shape := ⟨1, ![256]⟩
abbrev S256x1 : Shape := ⟨2, ![256, 1]⟩
abbrev S256x2 : Shape := ⟨2, ![256, 2]⟩

abbrev nBuf : Space → Nat
  | .hbm => 8
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S32768x2, .f32⟩
  | .hbm, ⟨6, _⟩ => ⟨S32768x2, .i32⟩
  | .hbm, ⟨7, _⟩ => ⟨S32768x64, .f32⟩
  | .local _ .vmem, ⟨0, _⟩ => ⟨S2048x768, .f32⟩
  | .local _ .vmem, ⟨1, _⟩ => ⟨S2048x768, .f32⟩
  | .local _ .vmem, ⟨2, _⟩ => ⟨S768x64, .f32⟩
  | .local _ .vmem, ⟨3, _⟩ => ⟨S64, .f32⟩
  | .local _ .vmem, ⟨4, _⟩ => ⟨S768x64, .f32⟩
  | .local _ .vmem, ⟨5, _⟩ => ⟨S64, .f32⟩
  | .local _ .vmem, ⟨6, _⟩ => ⟨S2048x2, .f32⟩
  | .local _ .vmem, ⟨7, _⟩ => ⟨S2048x2, .f32⟩
  | .local _ .vmem, ⟨8, _⟩ => ⟨S2048x2, .i32⟩
  | .local _ .vmem, ⟨9, _⟩ => ⟨S2048x2, .i32⟩
  | .local _ .vmem, ⟨10, _⟩ => ⟨S2048x64, .f32⟩
  | .local _ .vmem, ⟨11, _⟩ => ⟨S2048x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x768 : Shape := ⟨2, ![32768, 768]⟩
abbrev S768x64 : Shape := ⟨2, ![768, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768x2 : Shape := ⟨2, ![32768, 2]⟩
abbrev S32768 : Shape := ⟨1, ![32768]⟩
abbrev S32768x1 : Shape := ⟨2, ![32768, 1]⟩
abbrev S32768x2x1 : Shape := ⟨3, ![32768, 2, 1]⟩
abbrev S32768x2x2 : Shape := ⟨3, ![32768, 2, 2]⟩

abbrev nBuf : Space → Nat
  | .hbm => 418
  | .vmem => 0
  | .smem => 0
  | _ => 0

abbrev hbmTy0_0 (i : Nat) : BufTy := match i % 128 with
  | 0 => ⟨S32768x768, .f32⟩
  | 1 => ⟨S768x64, .f32⟩
  | 2 => ⟨S64, .f32⟩
  | 3 => ⟨S768x64, .f32⟩
  | 4 => ⟨S64, .f32⟩
  | 5 => ⟨S32768x64, .f32⟩
  | 6 => ⟨S1x64, .f32⟩
  | 7 => ⟨S32768x64, .f32⟩
  | 8 => ⟨S32768x64, .f32⟩
  | 9 => ⟨S32768x64, .f32⟩
  | 10 => ⟨S1x64, .f32⟩
  | 11 => ⟨S32768x64, .f32⟩
  | 12 => ⟨S32768x64, .f32⟩
  | 13 => ⟨S_, .f32⟩
  | 14 => ⟨S32768x64, .f32⟩
  | 15 => ⟨S32768x64, .f32⟩
  | 16 => ⟨S32768x64, .f32⟩
  | 17 => ⟨S32768x64, .f32⟩
  | 18 => ⟨S32768x64, .i1⟩
  | 19 => ⟨S32768x64, .f32⟩
  | 20 => ⟨S32768x64, .f32⟩
  | 21 => ⟨S32768x64, .f32⟩
  | 22 => ⟨S32768x64, .f32⟩
  | 23 => ⟨S32768x64, .f32⟩
  | 24 => ⟨S32768x64, .f32⟩
  | 25 => ⟨S32768x64, .f32⟩
  | 26 => ⟨S32768x64, .f32⟩
  | 27 => ⟨S32768x64, .i32⟩
  | 28 => ⟨S_, .i32⟩
  | 29 => ⟨S32768x64, .i32⟩
  | 30 => ⟨S32768x64, .i32⟩
  | 31 => ⟨S32768x64, .i32⟩
  | 32 => ⟨S32768x64, .i32⟩
  | 33 => ⟨S_, .i32⟩
  | 34 => ⟨S32768x64, .i32⟩
  | 35 => ⟨S_, .i32⟩
  | 36 => ⟨S32768x64, .i32⟩
  | 37 => ⟨S32768x64, .i32⟩
  | 38 => ⟨S_, .i32⟩
  | 39 => ⟨S32768x64, .i32⟩
  | 40 => ⟨S32768x64, .i32⟩
  | 41 => ⟨S32768x64, .i32⟩
  | 42 => ⟨S_, .i32⟩
  | 43 => ⟨S32768x64, .i32⟩
  | 44 => ⟨S32768x64, .i32⟩
  | 45 => ⟨S_, .i32⟩
  | 46 => ⟨S32768x64, .i32⟩
  | 47 => ⟨S32768x64, .i32⟩
  | 48 => ⟨S32768x64, .i32⟩
  | 49 => ⟨S32768x64, .i32⟩
  | 50 => ⟨S32768x64, .i32⟩
  | 51 => ⟨S_, .i32⟩
  | 52 => ⟨S32768x64, .i32⟩
  | 53 => ⟨S32768x64, .i32⟩
  | 54 => ⟨S_, .i32⟩
  | 55 => ⟨S32768x64, .i32⟩
  | 56 => ⟨S32768x64, .i32⟩
  | 57 => ⟨S32768x64, .i32⟩
  | 58 => ⟨S32768x64, .i32⟩
  | 59 => ⟨S32768x64, .i32⟩
  | 60 => ⟨S_, .i32⟩
  | 61 => ⟨S32768x64, .i32⟩
  | 62 => ⟨S32768x64, .i32⟩
  | 63 => ⟨S_, .i32⟩
  | 64 => ⟨S32768x64, .i32⟩
  | 65 => ⟨S32768x64, .i32⟩
  | 66 => ⟨S32768x64, .i32⟩
  | 67 => ⟨S32768x64, .i32⟩
  | 68 => ⟨S32768x64, .i32⟩
  | 69 => ⟨S_, .i32⟩
  | 70 => ⟨S32768x64, .i32⟩
  | 71 => ⟨S32768x64, .i32⟩
  | 72 => ⟨S_, .i32⟩
  | 73 => ⟨S32768x64, .i32⟩
  | 74 => ⟨S32768x64, .i32⟩
  | 75 => ⟨S32768x64, .i32⟩
  | 76 => ⟨S32768x64, .i32⟩
  | 77 => ⟨S_, .i32⟩
  | 78 => ⟨S32768x64, .i32⟩
  | 79 => ⟨S32768x64, .i32⟩
  | 80 => ⟨S_, .i32⟩
  | 81 => ⟨S32768x64, .i32⟩
  | 82 => ⟨S32768x64, .i32⟩
  | 83 => ⟨S_, .i32⟩
  | 84 => ⟨S32768x64, .i32⟩
  | 85 => ⟨S32768x64, .i32⟩
  | 86 => ⟨S32768x64, .i32⟩
  | 87 => ⟨S_, .i32⟩
  | 88 => ⟨S32768x64, .i32⟩
  | 89 => ⟨S32768x64, .i32⟩
  | 90 => ⟨S_, .i32⟩
  | 91 => ⟨S32768x64, .i32⟩
  | 92 => ⟨S32768x64, .i32⟩
  | 93 => ⟨S32768x64, .i32⟩
  | 94 => ⟨S32768x64, .i32⟩
  | 95 => ⟨S32768x64, .i32⟩
  | 96 => ⟨S_, .i32⟩
  | 97 => ⟨S32768x64, .i32⟩
  | 98 => ⟨S32768x64, .i32⟩
  | 99 => ⟨S_, .i32⟩
  | 100 => ⟨S32768x64, .i32⟩
  | 101 => ⟨S32768x64, .i32⟩
  | 102 => ⟨S32768x64, .i32⟩
  | 103 => ⟨S32768x64, .i32⟩
  | 104 => ⟨S32768x64, .i32⟩
  | 105 => ⟨S_, .i32⟩
  | 106 => ⟨S32768x64, .i32⟩
  | 107 => ⟨S32768x64, .i32⟩
  | 108 => ⟨S_, .i32⟩
  | 109 => ⟨S32768x64, .i32⟩
  | 110 => ⟨S32768x64, .i32⟩
  | 111 => ⟨S32768x64, .i32⟩
  | 112 => ⟨S32768x64, .i32⟩
  | 113 => ⟨S32768x64, .i32⟩
  | 114 => ⟨S_, .i32⟩
  | 115 => ⟨S32768x64, .i32⟩
  | 116 => ⟨S32768x64, .i32⟩
  | 117 => ⟨S_, .i32⟩
  | 118 => ⟨S32768x64, .i32⟩
  | 119 => ⟨S32768x64, .i32⟩
  | 120 => ⟨S32768x64, .i32⟩
  | 121 => ⟨S32768x64, .i32⟩
  | 122 => ⟨S_, .i32⟩
  | 123 => ⟨S32768x64, .i32⟩
  | 124 => ⟨S32768x64, .i32⟩
  | 125 => ⟨S_, .i32⟩
  | 126 => ⟨S32768x64, .i32⟩
  | 127 => ⟨S32768x64, .i32⟩
  | _ => ⟨S32768x768, .f32⟩

abbrev hbmTy0_1 (i : Nat) : BufTy := match i % 128 with
  | 0 => ⟨S_, .i32⟩
  | 1 => ⟨S32768x64, .i32⟩
  | 2 => ⟨S32768x64, .i32⟩
  | 3 => ⟨S32768x64, .i32⟩
  | 4 => ⟨S_, .i32⟩
  | 5 => ⟨S32768x64, .i32⟩
  | 6 => ⟨S32768x64, .i32⟩
  | 7 => ⟨S_, .i32⟩
  | 8 => ⟨S32768x64, .i32⟩
  | 9 => ⟨S32768x64, .i32⟩
  | 10 => ⟨S32768x64, .i32⟩
  | 11 => ⟨S32768x64, .i32⟩
  | 12 => ⟨S32768x64, .i32⟩
  | 13 => ⟨S_, .i32⟩
  | 14 => ⟨S32768x64, .i32⟩
  | 15 => ⟨S32768x64, .i32⟩
  | 16 => ⟨S_, .i32⟩
  | 17 => ⟨S32768x64, .i32⟩
  | 18 => ⟨S32768x64, .i32⟩
  | 19 => ⟨S32768x64, .i32⟩
  | 20 => ⟨S32768x64, .i32⟩
  | 21 => ⟨S32768x64, .i32⟩
  | 22 => ⟨S_, .i32⟩
  | 23 => ⟨S32768x64, .i32⟩
  | 24 => ⟨S32768x64, .i32⟩
  | 25 => ⟨S_, .i32⟩
  | 26 => ⟨S32768x64, .i32⟩
  | 27 => ⟨S32768x64, .i32⟩
  | 28 => ⟨S32768x64, .i32⟩
  | 29 => ⟨S32768x64, .i32⟩
  | 30 => ⟨S32768x64, .i32⟩
  | 31 => ⟨S_, .i32⟩
  | 32 => ⟨S32768x64, .i32⟩
  | 33 => ⟨S32768x64, .i32⟩
  | 34 => ⟨S_, .i32⟩
  | 35 => ⟨S32768x64, .i32⟩
  | 36 => ⟨S32768x64, .i32⟩
  | 37 => ⟨S32768x64, .i32⟩
  | 38 => ⟨S32768x64, .i32⟩
  | 39 => ⟨S_, .i32⟩
  | 40 => ⟨S32768x64, .i32⟩
  | 41 => ⟨S32768x64, .i32⟩
  | 42 => ⟨S_, .i32⟩
  | 43 => ⟨S32768x64, .i32⟩
  | 44 => ⟨S32768x64, .i32⟩
  | 45 => ⟨S_, .i32⟩
  | 46 => ⟨S32768x64, .i32⟩
  | 47 => ⟨S32768x64, .i32⟩
  | 48 => ⟨S32768x64, .i32⟩
  | 49 => ⟨S_, .i32⟩
  | 50 => ⟨S32768x64, .i32⟩
  | 51 => ⟨S32768x64, .i32⟩
  | 52 => ⟨S_, .i32⟩
  | 53 => ⟨S32768x64, .i32⟩
  | 54 => ⟨S32768x64, .i32⟩
  | 55 => ⟨S32768x64, .i32⟩
  | 56 => ⟨S32768x64, .i32⟩
  | 57 => ⟨S32768x64, .i32⟩
  | 58 => ⟨S_, .i32⟩
  | 59 => ⟨S32768x64, .i32⟩
  | 60 => ⟨S32768x64, .i32⟩
  | 61 => ⟨S_, .i32⟩
  | 62 => ⟨S32768x64, .i32⟩
  | 63 => ⟨S32768x64, .i32⟩
  | 64 => ⟨S32768x64, .i32⟩
  | 65 => ⟨S32768x64, .i32⟩
  | 66 => ⟨S32768x64, .i32⟩
  | 67 => ⟨S_, .i32⟩
  | 68 => ⟨S32768x64, .i32⟩
  | 69 => ⟨S32768x64, .i32⟩
  | 70 => ⟨S_, .i32⟩
  | 71 => ⟨S32768x64, .i32⟩
  | 72 => ⟨S32768x64, .i32⟩
  | 73 => ⟨S32768x64, .i32⟩
  | 74 => ⟨S32768x64, .i32⟩
  | 75 => ⟨S32768x64, .i32⟩
  | 76 => ⟨S_, .i32⟩
  | 77 => ⟨S32768x64, .i32⟩
  | 78 => ⟨S32768x64, .i32⟩
  | 79 => ⟨S_, .i32⟩
  | 80 => ⟨S32768x64, .i32⟩
  | 81 => ⟨S32768x64, .i32⟩
  | 82 => ⟨S32768x64, .i32⟩
  | 83 => ⟨S32768x64, .i32⟩
  | 84 => ⟨S_, .i32⟩
  | 85 => ⟨S32768x64, .i32⟩
  | 86 => ⟨S32768x64, .i32⟩
  | 87 => ⟨S_, .i32⟩
  | 88 => ⟨S32768x64, .i32⟩
  | 89 => ⟨S32768x64, .i32⟩
  | 90 => ⟨S_, .i32⟩
  | 91 => ⟨S32768x64, .i32⟩
  | 92 => ⟨S32768x64, .i32⟩
  | 93 => ⟨S32768x64, .i32⟩
  | 94 => ⟨S_, .i32⟩
  | 95 => ⟨S32768x64, .i32⟩
  | 96 => ⟨S32768x64, .i32⟩
  | 97 => ⟨S_, .i32⟩
  | 98 => ⟨S32768x64, .i32⟩
  | 99 => ⟨S32768x64, .i32⟩
  | 100 => ⟨S32768x64, .i32⟩
  | 101 => ⟨S32768x64, .i32⟩
  | 102 => ⟨S32768x64, .i32⟩
  | 103 => ⟨S_, .i32⟩
  | 104 => ⟨S32768x64, .i32⟩
  | 105 => ⟨S32768x64, .i32⟩
  | 106 => ⟨S_, .i32⟩
  | 107 => ⟨S32768x64, .i32⟩
  | 108 => ⟨S32768x64, .i32⟩
  | 109 => ⟨S32768x64, .i32⟩
  | 110 => ⟨S32768x64, .i32⟩
  | 111 => ⟨S32768x64, .i32⟩
  | 112 => ⟨S_, .i32⟩
  | 113 => ⟨S32768x64, .i32⟩
  | 114 => ⟨S32768x64, .i32⟩
  | 115 => ⟨S_, .i32⟩
  | 116 => ⟨S32768x64, .i32⟩
  | 117 => ⟨S32768x64, .i32⟩
  | 118 => ⟨S32768x64, .i32⟩
  | 119 => ⟨S32768x64, .i32⟩
  | 120 => ⟨S32768x64, .i32⟩
  | 121 => ⟨S_, .i32⟩
  | 122 => ⟨S32768x64, .i32⟩
  | 123 => ⟨S32768x64, .i32⟩
  | 124 => ⟨S_, .i32⟩
  | 125 => ⟨S32768x64, .i32⟩
  | 126 => ⟨S32768x64, .i32⟩
  | 127 => ⟨S32768x64, .i32⟩
  | _ => ⟨S32768x768, .f32⟩

abbrev hbmTy0_2 (i : Nat) : BufTy := match i % 128 with
  | 0 => ⟨S32768x64, .i32⟩
  | 1 => ⟨S_, .i32⟩
  | 2 => ⟨S32768x64, .i32⟩
  | 3 => ⟨S32768x64, .i32⟩
  | 4 => ⟨S_, .i32⟩
  | 5 => ⟨S32768x64, .i32⟩
  | 6 => ⟨S32768x64, .i32⟩
  | 7 => ⟨S_, .i32⟩
  | 8 => ⟨S32768x64, .i32⟩
  | 9 => ⟨S32768x64, .i32⟩
  | 10 => ⟨S32768x64, .i32⟩
  | 11 => ⟨S_, .i32⟩
  | 12 => ⟨S32768x64, .i32⟩
  | 13 => ⟨S32768x64, .i32⟩
  | 14 => ⟨S_, .i32⟩
  | 15 => ⟨S32768x64, .i32⟩
  | 16 => ⟨S32768x64, .i32⟩
  | 17 => ⟨S32768x64, .f32⟩
  | 18 => ⟨S_, .f32⟩
  | 19 => ⟨S32768x64, .f32⟩
  | 20 => ⟨S32768x64, .f32⟩
  | 21 => ⟨S_, .f32⟩
  | 22 => ⟨S_, .f32⟩
  | 23 => ⟨S_, .f32⟩
  | 24 => ⟨S32768x64, .f32⟩
  | 25 => ⟨S32768x64, .f32⟩
  | 26 => ⟨S_, .f32⟩
  | 27 => ⟨S32768x64, .f32⟩
  | 28 => ⟨S32768x64, .f32⟩
  | 29 => ⟨S_, .f32⟩
  | 30 => ⟨S32768x64, .f32⟩
  | 31 => ⟨S32768x64, .f32⟩
  | 32 => ⟨S32768x64, .f32⟩
  | 33 => ⟨S32768x64, .f32⟩
  | 34 => ⟨S32768x64, .f32⟩
  | 35 => ⟨S32768x64, .f32⟩
  | 36 => ⟨S_, .f32⟩
  | 37 => ⟨S32768x64, .f32⟩
  | 38 => ⟨S32768x64, .i1⟩
  | 39 => ⟨S_, .f32⟩
  | 40 => ⟨S32768x64, .f32⟩
  | 41 => ⟨S32768x64, .f32⟩
  | 42 => ⟨S_, .f32⟩
  | 43 => ⟨S32768x64, .f32⟩
  | 44 => ⟨S32768x64, .f32⟩
  | 45 => ⟨S_, .f32⟩
  | 46 => ⟨S32768x64, .f32⟩
  | 47 => ⟨S32768x64, .f32⟩
  | 48 => ⟨S32768x64, .f32⟩
  | 49 => ⟨S_, .f32⟩
  | 50 => ⟨S32768x64, .f32⟩
  | 51 => ⟨S32768x64, .f32⟩
  | 52 => ⟨S32768x64, .f32⟩
  | 53 => ⟨S_, .f32⟩
  | 54 => ⟨S32768x64, .f32⟩
  | 55 => ⟨S32768x64, .f32⟩
  | 56 => ⟨S32768x64, .f32⟩
  | 57 => ⟨S_, .f32⟩
  | 58 => ⟨S32768x64, .f32⟩
  | 59 => ⟨S32768x64, .f32⟩
  | 60 => ⟨S32768x64, .f32⟩
  | 61 => ⟨S_, .f32⟩
  | 62 => ⟨S32768x64, .f32⟩
  | 63 => ⟨S32768x64, .f32⟩
  | 64 => ⟨S32768x64, .f32⟩
  | 65 => ⟨S_, .f32⟩
  | 66 => ⟨S32768x64, .f32⟩
  | 67 => ⟨S32768x64, .f32⟩
  | 68 => ⟨S32768x64, .f32⟩
  | 69 => ⟨S_, .f32⟩
  | 70 => ⟨S32768x64, .f32⟩
  | 71 => ⟨S32768x64, .f32⟩
  | 72 => ⟨S32768x64, .f32⟩
  | 73 => ⟨S_, .f32⟩
  | 74 => ⟨S32768x64, .f32⟩
  | 75 => ⟨S32768x64, .f32⟩
  | 76 => ⟨S32768x64, .f32⟩
  | 77 => ⟨S_, .f32⟩
  | 78 => ⟨S32768x64, .f32⟩
  | 79 => ⟨S32768x64, .f32⟩
  | 80 => ⟨S_, .f32⟩
  | 81 => ⟨S32768x64, .f32⟩
  | 82 => ⟨S32768x64, .f32⟩
  | 83 => ⟨S_, .f32⟩
  | 84 => ⟨S32768x64, .f32⟩
  | 85 => ⟨S32768x64, .f32⟩
  | 86 => ⟨S32768x64, .f32⟩
  | 87 => ⟨S_, .f32⟩
  | 88 => ⟨S32768x64, .f32⟩
  | 89 => ⟨S32768x64, .f32⟩
  | 90 => ⟨S32768x64, .f32⟩
  | 91 => ⟨S_, .f32⟩
  | 92 => ⟨S32768x64, .f32⟩
  | 93 => ⟨S32768x64, .f32⟩
  | 94 => ⟨S32768x64, .f32⟩
  | 95 => ⟨S_, .f32⟩
  | 96 => ⟨S32768x64, .f32⟩
  | 97 => ⟨S32768x64, .f32⟩
  | 98 => ⟨S32768x64, .f32⟩
  | 99 => ⟨S_, .f32⟩
  | 100 => ⟨S32768x64, .f32⟩
  | 101 => ⟨S32768x64, .f32⟩
  | 102 => ⟨S32768x64, .f32⟩
  | 103 => ⟨S_, .f32⟩
  | 104 => ⟨S32768x64, .f32⟩
  | 105 => ⟨S32768x64, .f32⟩
  | 106 => ⟨S32768x64, .f32⟩
  | 107 => ⟨S_, .f32⟩
  | 108 => ⟨S32768x64, .f32⟩
  | 109 => ⟨S32768x64, .f32⟩
  | 110 => ⟨S32768x64, .f32⟩
  | 111 => ⟨S_, .f32⟩
  | 112 => ⟨S32768x64, .f32⟩
  | 113 => ⟨S32768x64, .f32⟩
  | 114 => ⟨S32768x64, .f32⟩
  | 115 => ⟨S32768x64, .f32⟩
  | 116 => ⟨S_, .f32⟩
  | 117 => ⟨S32768x64, .f32⟩
  | 118 => ⟨S32768x64, .f32⟩
  | 119 => ⟨S32768x64, .f32⟩
  | 120 => ⟨S32768x64, .f32⟩
  | 121 => ⟨S32768x2, .f32⟩
  | 122 => ⟨S32768x2, .i32⟩
  | 123 => ⟨S32768, .i32⟩
  | 124 => ⟨S32768x1, .i32⟩
  | 125 => ⟨S_, .f32⟩
  | 126 => ⟨S32768x64, .f32⟩
  | 127 => ⟨S_, .i32⟩
  | _ => ⟨S32768x768, .f32⟩

abbrev hbmTy0_3 (i : Nat) : BufTy := match i % 128 with
  | 0 => ⟨S32768x1, .i32⟩
  | 1 => ⟨S32768x1, .i1⟩
  | 2 => ⟨S_, .i32⟩
  | 3 => ⟨S32768x1, .i32⟩
  | 4 => ⟨S32768x1, .i32⟩
  | 5 => ⟨S32768x1, .i32⟩
  | 6 => ⟨S_, .i32⟩
  | 7 => ⟨S32768x2, .i32⟩
  | 8 => ⟨S32768x2, .i1⟩
  | 9 => ⟨S_, .i32⟩
  | 10 => ⟨S32768x2, .i32⟩
  | 11 => ⟨S32768x2, .i32⟩
  | 12 => ⟨S32768x2, .i32⟩
  | 13 => ⟨S32768x2, .i32⟩
  | 14 => ⟨S32768x2x1, .i32⟩
  | 15 => ⟨S32768x2x1, .i32⟩
  | 16 => ⟨S32768x2x2, .i32⟩
  | 17 => ⟨S_, .f32⟩
  | 18 => ⟨S32768x2, .f32⟩
  | 19 => ⟨S32768x64, .f32⟩
  | 20 => ⟨S_, .f32⟩
  | 21 => ⟨S32768, .f32⟩
  | 22 => ⟨S_, .f32⟩
  | 23 => ⟨S32768, .f32⟩
  | 24 => ⟨S32768, .f32⟩
  | 25 => ⟨S32768x1, .f32⟩
  | 26 => ⟨S32768x2, .f32⟩
  | 27 => ⟨S32768x2, .f32⟩
  | 28 => ⟨S32768x2, .f32⟩
  | 29 => ⟨S_, .f32⟩
  | 30 => ⟨S32768, .f32⟩
  | 31 => ⟨S32768x1, .f32⟩
  | 32 => ⟨S32768x2, .f32⟩
  | 33 => ⟨S32768x2, .f32⟩
  | _ => ⟨S32768x768, .f32⟩

abbrev hbmTy (i : Nat) : BufTy := match i / 128 with
  | 0 => hbmTy0_0 i
  | 1 => hbmTy0_1 i
  | 2 => hbmTy0_2 i
  | 3 => hbmTy0_3 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_c_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_14 : Ref sig .tc := ⟨.hbm, 87, rfl⟩
abbrev main_v54 : Ref sig .tc := ⟨.hbm, 88, rfl⟩
abbrev main_v55 : Ref sig .tc := ⟨.hbm, 89, rfl⟩
abbrev main_c_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_c_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_22 : Ref sig .tc := ⟨.hbm, 122, rfl⟩
abbrev main_v81 : Ref sig .tc := ⟨.hbm, 123, rfl⟩
abbrev main_v82 : Ref sig .tc := ⟨.hbm, 124, rfl⟩
abbrev main_c_23 : Ref sig .tc := ⟨.hbm, 125, rfl⟩
abbrev main_v83 : Ref sig .tc := ⟨.hbm, 126, rfl⟩
abbrev main_v84 : Ref sig .tc := ⟨.hbm, 127, rfl⟩
abbrev main_c_24 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_25 : Ref sig .tc := ⟨.hbm, 132, rfl⟩
abbrev main_v88 : Ref sig .tc := ⟨.hbm, 133, rfl⟩
abbrev main_v89 : Ref sig .tc := ⟨.hbm, 134, rfl⟩
abbrev main_c_26 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_27 : Ref sig .tc := ⟨.hbm, 141, rfl⟩
abbrev main_v95 : Ref sig .tc := ⟨.hbm, 142, rfl⟩
abbrev main_v96 : Ref sig .tc := ⟨.hbm, 143, rfl⟩
abbrev main_c_28 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_29 : Ref sig .tc := ⟨.hbm, 150, rfl⟩
abbrev main_v102 : Ref sig .tc := ⟨.hbm, 151, rfl⟩
abbrev main_v103 : Ref sig .tc := ⟨.hbm, 152, rfl⟩
abbrev main_c_30 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_31 : Ref sig .tc := ⟨.hbm, 159, rfl⟩
abbrev main_v109 : Ref sig .tc := ⟨.hbm, 160, rfl⟩
abbrev main_v110 : Ref sig .tc := ⟨.hbm, 161, rfl⟩
abbrev main_c_32 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_33 : Ref sig .tc := ⟨.hbm, 167, rfl⟩
abbrev main_v115 : Ref sig .tc := ⟨.hbm, 168, rfl⟩
abbrev main_v116 : Ref sig .tc := ⟨.hbm, 169, rfl⟩
abbrev main_c_34 : Ref sig .tc := ⟨.hbm, 170, rfl⟩
abbrev main_v117 : Ref sig .tc := ⟨.hbm, 171, rfl⟩
abbrev main_v118 : Ref sig .tc := ⟨.hbm, 172, rfl⟩
abbrev main_c_35 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_36 : Ref sig .tc := ⟨.hbm, 177, rfl⟩
abbrev main_v122 : Ref sig .tc := ⟨.hbm, 178, rfl⟩
abbrev main_v123 : Ref sig .tc := ⟨.hbm, 179, rfl⟩
abbrev main_c_37 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_c_38 : Ref sig .tc := ⟨.hbm, 186, rfl⟩
abbrev main_v129 : Ref sig .tc := ⟨.hbm, 187, rfl⟩
abbrev main_v130 : Ref sig .tc := ⟨.hbm, 188, rfl⟩
abbrev main_c_39 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_c_40 : Ref sig .tc := ⟨.hbm, 195, rfl⟩
abbrev main_v136 : Ref sig .tc := ⟨.hbm, 196, rfl⟩
abbrev main_v137 : Ref sig .tc := ⟨.hbm, 197, rfl⟩
abbrev main_c_41 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_c_42 : Ref sig .tc := ⟨.hbm, 204, rfl⟩
abbrev main_v143 : Ref sig .tc := ⟨.hbm, 205, rfl⟩
abbrev main_v144 : Ref sig .tc := ⟨.hbm, 206, rfl⟩
abbrev main_c_43 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_c_44 : Ref sig .tc := ⟨.hbm, 212, rfl⟩
abbrev main_v149 : Ref sig .tc := ⟨.hbm, 213, rfl⟩
abbrev main_v150 : Ref sig .tc := ⟨.hbm, 214, rfl⟩
abbrev main_c_45 : Ref sig .tc := ⟨.hbm, 215, rfl⟩
abbrev main_v151 : Ref sig .tc := ⟨.hbm, 216, rfl⟩
abbrev main_v152 : Ref sig .tc := ⟨.hbm, 217, rfl⟩
abbrev main_c_46 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_c_47 : Ref sig .tc := ⟨.hbm, 222, rfl⟩
abbrev main_v156 : Ref sig .tc := ⟨.hbm, 223, rfl⟩
abbrev main_v157 : Ref sig .tc := ⟨.hbm, 224, rfl⟩
abbrev main_c_48 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_49 : Ref sig .tc := ⟨.hbm, 231, rfl⟩
abbrev main_v163 : Ref sig .tc := ⟨.hbm, 232, rfl⟩
abbrev main_v164 : Ref sig .tc := ⟨.hbm, 233, rfl⟩
abbrev main_c_50 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_c_51 : Ref sig .tc := ⟨.hbm, 240, rfl⟩
abbrev main_v170 : Ref sig .tc := ⟨.hbm, 241, rfl⟩
abbrev main_v171 : Ref sig .tc := ⟨.hbm, 242, rfl⟩
abbrev main_c_52 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_c_53 : Ref sig .tc := ⟨.hbm, 249, rfl⟩
abbrev main_v177 : Ref sig .tc := ⟨.hbm, 250, rfl⟩
abbrev main_v178 : Ref sig .tc := ⟨.hbm, 251, rfl⟩
abbrev main_c_54 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_c_55 : Ref sig .tc := ⟨.hbm, 257, rfl⟩
abbrev main_v183 : Ref sig .tc := ⟨.hbm, 258, rfl⟩
abbrev main_v184 : Ref sig .tc := ⟨.hbm, 259, rfl⟩
abbrev main_c_56 : Ref sig .tc := ⟨.hbm, 260, rfl⟩
abbrev main_v185 : Ref sig .tc := ⟨.hbm, 261, rfl⟩
abbrev main_v186 : Ref sig .tc := ⟨.hbm, 262, rfl⟩
abbrev main_c_57 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_c_58 : Ref sig .tc := ⟨.hbm, 267, rfl⟩
abbrev main_v190 : Ref sig .tc := ⟨.hbm, 268, rfl⟩
abbrev main_v191 : Ref sig .tc := ⟨.hbm, 269, rfl⟩
abbrev main_c_59 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_cst : Ref sig .tc := ⟨.hbm, 274, rfl⟩
abbrev main_v195 : Ref sig .tc := ⟨.hbm, 275, rfl⟩
abbrev main_v196 : Ref sig .tc := ⟨.hbm, 276, rfl⟩
abbrev main_cst_60 : Ref sig .tc := ⟨.hbm, 277, rfl⟩
abbrev main_cst_61 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_cst_62 : Ref sig .tc := ⟨.hbm, 282, rfl⟩
abbrev main_v200 : Ref sig .tc := ⟨.hbm, 283, rfl⟩
abbrev main_v201 : Ref sig .tc := ⟨.hbm, 284, rfl⟩
abbrev main_cst_63 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_64 : Ref sig .tc := ⟨.hbm, 292, rfl⟩
abbrev main_v208 : Ref sig .tc := ⟨.hbm, 293, rfl⟩
abbrev main_v209 : Ref sig .tc := ⟨.hbm, 294, rfl⟩
abbrev main_cst_65 : Ref sig .tc := ⟨.hbm, 295, rfl⟩
abbrev main_v210 : Ref sig .tc := ⟨.hbm, 296, rfl⟩
abbrev main_v211 : Ref sig .tc := ⟨.hbm, 297, rfl⟩
abbrev main_cst_66 : Ref sig .tc := ⟨.hbm, 298, rfl⟩
abbrev main_v212 : Ref sig .tc := ⟨.hbm, 299, rfl⟩
abbrev main_v213 : Ref sig .tc := ⟨.hbm, 300, rfl⟩
abbrev main_cst_67 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_cst_68 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_cst_69 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_cst_70 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_cst_71 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_cst_72 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_cst_73 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_cst_74 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_cst_75 : Ref sig .tc := ⟨.hbm, 333, rfl⟩
abbrev main_v238 : Ref sig .tc := ⟨.hbm, 334, rfl⟩
abbrev main_v239 : Ref sig .tc := ⟨.hbm, 335, rfl⟩
abbrev main_cst_76 : Ref sig .tc := ⟨.hbm, 336, rfl⟩
abbrev main_v240 : Ref sig .tc := ⟨.hbm, 337, rfl⟩
abbrev main_v241 : Ref sig .tc := ⟨.hbm, 338, rfl⟩
abbrev main_cst_77 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_cst_78 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_cst_79 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_cst_80 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_cst_81 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_cst_82 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_cst_83 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_cst_84 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_cst_85 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_values : Ref sig .tc := ⟨.hbm, 377, rfl⟩
abbrev main_indices : Ref sig .tc := ⟨.hbm, 378, rfl⟩
abbrev main_v271 : Ref sig .tc := ⟨.hbm, 379, rfl⟩
abbrev main_v272 : Ref sig .tc := ⟨.hbm, 380, rfl⟩
abbrev main_cst_86 : Ref sig .tc := ⟨.hbm, 381, rfl⟩
abbrev main_v273 : Ref sig .tc := ⟨.hbm, 382, rfl⟩
abbrev main_c_87 : Ref sig .tc := ⟨.hbm, 383, rfl⟩
abbrev main_v274 : Ref sig .tc := ⟨.hbm, 384, rfl⟩
abbrev main_v275 : Ref sig .tc := ⟨.hbm, 385, rfl⟩
abbrev main_c_88 : Ref sig .tc := ⟨.hbm, 386, rfl⟩
abbrev main_v276 : Ref sig .tc := ⟨.hbm, 387, rfl⟩
abbrev main_v277 : Ref sig .tc := ⟨.hbm, 388, rfl⟩
abbrev main_v278 : Ref sig .tc := ⟨.hbm, 389, rfl⟩
abbrev main_c_89 : Ref sig .tc := ⟨.hbm, 390, rfl⟩
abbrev main_v279 : Ref sig .tc := ⟨.hbm, 391, rfl⟩
abbrev main_v280 : Ref sig .tc := ⟨.hbm, 392, rfl⟩
abbrev main_c_90 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_cst_91 : Ref sig .tc := ⟨.hbm, 401, rfl⟩
abbrev main_v288 : Ref sig .tc := ⟨.hbm, 402, rfl⟩
abbrev main_v289 : Ref sig .tc := ⟨.hbm, 403, rfl⟩
abbrev main_cst_92 : Ref sig .tc := ⟨.hbm, 404, rfl⟩
abbrev main_v290 : Ref sig .tc := ⟨.hbm, 405, rfl⟩
abbrev main_cst_93 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_v295 : Ref sig .tc := ⟨.hbm, 411, rfl⟩
abbrev main_v296 : Ref sig .tc := ⟨.hbm, 412, rfl⟩
abbrev main_cst_94 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩

abbrev nD : Nat := 1
abbrev τ : Topo := Topo.v7x

variable {F : FTy → Type} [FloatOps F]
-- ==== Proof.Noise.lean ====
/-
  The noise of one position, as functions of one 32-bit counter: the twenty Threefry rounds, the uniform deviate
  of their bits, and the two spellings of the normal deviate (the kernel's and the reference's). Everything is
  over an arbitrary float instance; nothing is computed here.
-/
module

public import Idealize.ShloMosaic.PureOps

@[expose] public section

noncomputable section

namespace Cert.Router

open Idealize.ShloMosaic

/-! ## The random bits of a counter -/

/-- A 32-bit word. -/
abbrev Word := BitVec 32

/-- Rotate `y` left by `r` (with `l = 32 - r`), then xor `x` in: the second word of a round, on unit `u`. -/
def mix (u : ArithUnit) (r l y x : Word) : Word := IntOp.xori (IntOp.ori (IntOp.shli u y r) (IntOp.shrui u y l)) x

/-- The second word's key and block number, added as one literal. -/
def addTogether (k n y : Word) : Word := IntOp.addi y (Scalar.addi k n)

/-- The second word's key and block number, added one after the other. -/
def addApart (k n y : Word) : Word := IntOp.addi (IntOp.addi y k) n

section rounds

variable (f : Word → Word → Word → Word → Word) (g : Word → Word → Word → Word)

/-- The first word after four rounds, by the rotations `r1 … r4` (`l1 … l4` their complements). -/
def quadX (r1 l1 r2 l2 r3 l3 : Word) (x y : Word) : Word :=
  let x1 := IntOp.addi x y
  let y1 := f r1 l1 y x1
  let x2 := IntOp.addi x1 y1
  let y2 := f r2 l2 y1 x2
  let x3 := IntOp.addi x2 y2
  let y3 := f r3 l3 y2 x3
  IntOp.addi x3 y3

/-- The second word after them. -/
def quadY (r1 l1 r2 l2 r3 l3 r4 l4 : Word) (x y : Word) : Word :=
  let x1 := IntOp.addi x y
  let y1 := f r1 l1 y x1
  let x2 := IntOp.addi x1 y1
  let y2 := f r2 l2 y1 x2
  let x3 := IntOp.addi x2 y2
  let y3 := f r3 l3 y2 x3
  let x4 := IntOp.addi x3 y3
  f r4 l4 y3 x4

/-- The words after the first four rounds and the key words that follow them, and so on after each four. -/
def x1 (x y : Word) : Word := IntOp.addi (quadX f 13#32 19#32 15#32 17#32 26#32 6#32 x y) 42#32
def y1 (x y : Word) : Word := g 466689008#32 1#32 (quadY f 13#32 19#32 15#32 17#32 26#32 6#32 6#32 26#32 x y)
def x2 (x y : Word) : Word := IntOp.addi (quadX f 17#32 15#32 29#32 3#32 16#32 16#32 (x1 f x y) (y1 f g x y)) 466689008#32
def y2 (x y : Word) : Word := g 0#32 2#32 (quadY f 17#32 15#32 29#32 3#32 16#32 16#32 24#32 8#32 (x1 f x y) (y1 f g x y))
def x3 (x y : Word) : Word := IntOp.addi (quadX f 13#32 19#32 15#32 17#32 26#32 6#32 (x2 f g x y) (y2 f g x y)) 0#32
def y3 (x y : Word) : Word := g 42#32 3#32 (quadY f 13#32 19#32 15#32 17#32 26#32 6#32 6#32 26#32 (x2 f g x y) (y2 f g x y))
def x4 (x y : Word) : Word := IntOp.addi (quadX f 17#32 15#32 29#32 3#32 16#32 16#32 (x3 f g x y) (y3 f g x y)) 42#32
def y4 (x y : Word) : Word := g 466689008#32 4#32 (quadY f 17#32 15#32 29#32 3#32 16#32 16#32 24#32 8#32 (x3 f g x y) (y3 f g x y))
def x5 (x y : Word) : Word := IntOp.addi (quadX f 13#32 19#32 15#32 17#32 26#32 6#32 (x4 f g x y) (y4 f g x y)) 466689008#32
def y5 (x y : Word) : Word := g 0#32 5#32 (quadY f 13#32 19#32 15#32 17#32 26#32 6#32 6#32 26#32 (x4 f g x y) (y4 f g x y))

/-- The bits: the two words after the twenty rounds, xored. -/
def bits (x y : Word) : Word := IntOp.xori (x5 f g x y) (y5 f g x y)

end rounds

/-! ## The normal deviate of the bits -/

variable {F : FTy → Type} [FloatOps F]

/-- A float literal. -/
abbrev lit (w : Word) : F .f32 := FloatOps.ofBits .f32 w

/-- The fraction in `[0, 1)` that the top 23 bits make, on unit `u`. -/
def fraction (u : ArithUnit) (b : Word) : F .f32 :=
  FloatOps.subf (FloatOps.ofBits .f32 (IntOp.ori (IntOp.shrui u b 9#32) 1065353216#32)) (lit 0x3F800000#32)

/-- The fraction stretched to `[-1, 1)`, an interval of the given width. -/
def stretch (width x : F .f32) : F .f32 := FloatOps.addf (FloatOps.mulf x width) (lit 0xBF7FFFFF#32)

/-- One step of Horner's rule. -/
def horner (t v : F .f32) (w : Word) : F .f32 := FloatOps.addf (FloatOps.mulf v t) (lit w)

/-- The polynomial of the centre. -/
def centre (t : F .f32) : F .f32 :=
  horner t (horner t (horner t (horner t (horner t (horner t (horner t (horner t (lit 0x32F16588#32) 0x34B84B36#32) 0xB66C7357#32)
    0xB6935AC1#32) 0x396532DB#32) 0xBAA45408#32) 0xBB88E4EF#32) 0x3E7C8F63#32) 0x3FC02E2F#32

/-- The polynomial of the tails. -/
def outer (t : F .f32) : F .f32 :=
  horner t (horner t (horner t (horner t (horner t (horner t (horner t (horner t (lit 0xB951F09B#32) 0x38D3B56B#32) 0x3AB0DC72#32)
    0xBB70BDE7#32) 0x3BBC127B#32) 0xBBF9C5D7#32) 0x3C1AA57E#32) 0x3F8036DB#32) 0x40354F7E#32

/-- The kernel's `w = -log (1 - u²)`. -/
def kernelW (u : F .f32) : F .f32 :=
  FloatOps.subf (lit 0x00000000#32) (FloatOps.log (FloatOps.subf (lit 0x3F800000#32) (FloatOps.mulf u u)))

/-- The inverse error function from `u`, `w` and `w`'s square root. -/
def inverse (u w s : F .f32) : F .f32 :=
  FloatOps.mulf (Scalar.select (FloatOps.cmpf .olt w (lit 0x40A00000#32)) (centre (FloatOps.subf w (lit 0x40200000#32)))
    (outer (FloatOps.subf s (lit 0x40400000#32)))) u

/-- The kernel's normal deviate of a uniform one. -/
def kernelNormal (u : F .f32) : F .f32 :=
  FloatOps.mulf (lit 0x3FB504F3#32) (inverse u (kernelW u) (FloatOps.mulf (FloatOps.rsqrt (kernelW u)) (kernelW u)))

/-- The kernel's normal deviate of a counter. -/
def kernelEps (y : Word) : F .f32 :=
  kernelNormal (stretch (Scalar.subf (lit 0x3F800000#32) (lit 0xBF7FFFFF#32)) (fraction .vector (bits (mix .vector) addTogether 0#32 y)))

/-- The reference's `w = -log1p (-u u)`. -/
def hostW (u : F .f32) : F .f32 := FloatOps.hostNegf (FloatOps.hostUnary .log1p (FloatOps.mulf (FloatOps.hostNegf u) u))

/-- The reference's normal deviate of a uniform one. -/
def hostNormal (u : F .f32) : F .f32 :=
  FloatOps.mulf (lit 0x3FB504F3#32) (inverse u (hostW u) (FloatOps.hostUnary .sqrt (hostW u)))

/-- The reference's normal deviate of a position. -/
def hostEps (p : Word) : F .f32 :=
  hostNormal (FloatOps.maximumf (lit 0xBF7FFFFF#32) (stretch (FloatOps.subf (lit 0x3F800000#32) (lit 0xBF7FFFFF#32))
    (fraction .host (bits (mix .host) addApart (IntOp.addi 0#32 0#32) (IntOp.addi p 42#32)))))

end Cert.Router

end
-- ==== Proof.NoiseEq.lean ====
/-
  Over the extended reals the kernel's noise at a counter is the reference's at the position 42 below it, and it is a real
  number. The rounds agree as words; the uniform deviate lies in (-1, 1), so the logarithm, the square root and the
  two polynomials stay among the reals.
-/
module

public import proofs.«01_k».proof.Proof.Noise
public import Idealize.ShloMosaic.Lib.KernelVsHost
public import Idealize.ShloMosaic.Lib.IdealHost

@[expose] public section

noncomputable section

namespace Cert.Router

open Idealize.ShloMosaic

/-! ## The rounds -/

theorem mix_unit : mix .host = mix .vector := by
  funext r l y x
  unfold mix
  rw [shli_unit .host .vector, shrui_unit .host .vector]

theorem addApart_eq : addApart = addTogether := by
  funext k n y
  exact BitVec.add_assoc y k n

theorem fraction_unit {F : FTy → Type} [FloatOps F] (b : Word) : fraction (F := F) .host b = fraction .vector b := by
  unfold fraction
  rw [shrui_unit .host .vector]

/-! ## Real numbers among the extended ones -/

/-- `x` is a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} (hx : IsReal x) (hy : IsReal y) : IsReal (max x y) := by
  rcases max_choice x y with h | h <;> rw [h] <;> assumption
theorem IsReal.select {x y : EReal} (c : BitVec 1) (hx : IsReal x) (hy : IsReal y) : IsReal (Scalar.select c x y) := by
  unfold Scalar.select; split <;> assumption
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A literal whose exponent field is not all ones is a real number. -/
theorem isReal_ofBits (w : Word) (h : (w.extractLsb' 23 8).toNat ≠ 255) : IsReal (Ideal.ofBits .f32 w) := by
  unfold Ideal.ofBits Ideal.ieee
  simp only
  rw [if_neg (by simpa using h)]
  split <;> exact ⟨_, rfl⟩

/-! ## The uniform deviate -/

theorem lowest_value : Ideal.ofBits .f32 0xBF7FFFFF#32 = ((-(1 - 1 / 2 ^ 24) : ℝ) : EReal) := by
  unfold Ideal.ofBits Ideal.ieee
  simp only [show BitVec.extractLsb' (8 + 23) 1 0xBF7FFFFF#32 = 1#1 by decide,
    show BitVec.extractLsb' 23 8 0xBF7FFFFF#32 = 126#8 by decide, show BitVec.extractLsb' 0 23 0xBF7FFFFF#32 = 8388607#23 by decide]
  rw [if_neg (by decide), if_neg (by decide)]
  refine congrArg _ ?_
  norm_num

/-- The word of a fraction: the exponent of one, above the bits. -/
theorem fraction_word (b : Word) : ∃ k : ℕ, k < 2 ^ 23
    ∧ Ideal.ofBits .f32 (b >>> 9 ||| 1065353216#32) = ((1 + k / 2 ^ 23 : ℝ) : EReal) := by
  have hs : BitVec.extractLsb' 31 1 (b >>> 9 ||| 1065353216#32) = 0#1 := by
    apply BitVec.eq_of_getLsbD_eq
    intro i hi
    interval_cases i
    simp
  have he : BitVec.extractLsb' 23 8 (b >>> 9 ||| 1065353216#32) = 127#8 := by
    apply BitVec.eq_of_getLsbD_eq
    intro i hi
    interval_cases i <;> simp
  refine ⟨(BitVec.extractLsb' 0 23 (b >>> 9 ||| 1065353216#32)).toNat, BitVec.isLt _, ?_⟩
  unfold Ideal.ofBits Ideal.ieee
  simp only [hs, he]
  generalize (BitVec.extractLsb' 0 23 (b >>> 9 ||| 1065353216#32)).toNat = k
  rw [if_neg (by decide), if_neg (by decide)]
  refine congrArg _ ?_
  norm_num
  ring

/-- The uniform deviate of the bits: a real number of (-1, 1), no less than the literal it starts from. -/
theorem stretch_value (b : Word) : ∃ u : ℝ, -1 < u ∧ u < 1
    ∧ stretch (F := Ideal) (Scalar.subf (lit 0x3F800000#32) (lit 0xBF7FFFFF#32)) (fraction .vector b) = (u : EReal)
    ∧ Ideal.ofBits .f32 0xBF7FFFFF#32 ≤ (u : EReal) := by
  obtain ⟨k, hk, e⟩ := fraction_word b
  have hk' : (k : ℝ) ≤ 2 ^ 23 - 1 := by
    have : k + 1 ≤ 2 ^ 23 := hk
    have : ((k + 1 : ℕ) : ℝ) ≤ ((2 ^ 23 : ℕ) : ℝ) := by exact_mod_cast this
    push_cast at this
    linarith
  have hk0 : (0 : ℝ) ≤ k := Nat.cast_nonneg k
  refine ⟨(1 + k / 2 ^ 23 - 1) * (1 - -(1 - 1 / 2 ^ 24)) + -(1 - 1 / 2 ^ 24), ?_, ?_, ?_, ?_⟩
  · norm_num; linarith
  · have : (k : ℝ) / 2 ^ 23 ≤ (2 ^ 23 - 1) / 2 ^ 23 := by gcongr
    norm_num at this ⊢; linarith
  · have hsh : IntOp.shrui .vector b 9#32 = b >>> 9 := by
      unfold IntOp.shrui; rw [if_pos (by decide)]; rfl
    unfold stretch fraction
    rw [hsh]
    show (Ideal.ofBits .f32 (b >>> 9 ||| 1065353216#32) - Ideal.ofBits .f32 0x3F800000#32)
      * (Ideal.ofBits .f32 0x3F800000#32 - Ideal.ofBits .f32 0xBF7FFFFF#32) + Ideal.ofBits .f32 0xBF7FFFFF#32 = _
    rw [e, lowest_value, Ideal.ofBits_one_f32, ← EReal.coe_one, ← EReal.coe_sub, ← EReal.coe_sub, ← EReal.coe_mul, ← EReal.coe_add]
  · rw [lowest_value, EReal.coe_le_coe_iff]
    have : (0 : ℝ) ≤ (1 + k / 2 ^ 23 - 1) * (1 - -(1 - 1 / 2 ^ 24)) := by
      have : (0 : ℝ) ≤ k / 2 ^ 23 := by positivity
      have h2 : (0 : ℝ) ≤ 1 - -(1 - 1 / 2 ^ 24) := by norm_num
      exact mul_nonneg (by linarith) h2
    linarith

/-! ## The normal deviate -/

/-- The kernel's `w` at a uniform deviate of (-1, 1): a real number no less than zero. -/
theorem kernelW_value (u : ℝ) (h1 : -1 < u) (h2 : u < 1) :
    0 ≤ -Real.log (1 - u * u) ∧ kernelW (F := Ideal) (u : EReal) = ((-Real.log (1 - u * u) : ℝ) : EReal) := by
  have hp : 0 < 1 - u * u := by nlinarith
  refine ⟨neg_nonneg.mpr (Real.log_nonpos hp.le (by nlinarith)), ?_⟩
  show Ideal.ofBits .f32 0x00000000#32 - Ideal.log (Ideal.ofBits .f32 0x3F800000#32 - (u : EReal) * (u : EReal)) = _
  rw [Ideal.ofBits_zero_f32, Ideal.ofBits_one_f32, ← EReal.coe_one, ← EReal.coe_mul, ← EReal.coe_sub, Ideal.log_coe,
    if_neg (not_le.mpr hp), zero_sub, EReal.coe_neg]

/-- The reference's `w` is the kernel's. -/
theorem hostW_eq (u : ℝ) (h1 : -1 < u) (h2 : u < 1) : hostW (F := Ideal) (u : EReal) = kernelW (F := Ideal) (u : EReal) := by
  have hp : 0 < 1 - u * u := by nlinarith
  rw [(kernelW_value u h1 h2).2]
  show -Ideal.log (1 + -(u : EReal) * (u : EReal)) = _
  rw [← EReal.coe_one, ← EReal.coe_neg, ← EReal.coe_mul, ← EReal.coe_add,
    show 1 + -u * u = 1 - u * u by ring, Ideal.log_coe, if_neg (not_le.mpr hp), EReal.coe_neg]

/-- `w` over its square root is its square root, zero included. -/
theorem rsqrt_mul_self (w : ℝ) (h : 0 ≤ w) : Ideal.rsqrt (w : EReal) * (w : EReal) = Ideal.sqrt (w : EReal) := by
  rw [Ideal.rsqrt_coe, Ideal.sqrt_coe, if_neg (not_lt.mpr h), if_neg (not_lt.mpr h)]
  split
  · next h0 => subst h0; simp
  · next h0 =>
    rw [← EReal.coe_mul]
    congr 1
    have hs : Real.sqrt w ≠ 0 := (Real.sqrt_pos.mpr (lt_of_le_of_ne h (Ne.symm h0))).ne'
    nth_rewrite 2 [← Real.mul_self_sqrt h]
    field_simp

theorem isReal_horner {t v : EReal} {w : Word} (ht : IsReal t) (hv : IsReal v) (h : (w.extractLsb' 23 8).toNat ≠ 255) :
    IsReal (horner (F := Ideal) t v w) := (hv.mul ht).add (isReal_ofBits w h)

theorem isReal_centre {t : EReal} (ht : IsReal t) : IsReal (centre (F := Ideal) t) := by
  unfold centre
  repeat' refine isReal_horner ht ?_ (by decide)
  exact isReal_ofBits _ (by decide)

theorem isReal_outer {t : EReal} (ht : IsReal t) : IsReal (outer (F := Ideal) t) := by
  unfold outer
  repeat' refine isReal_horner ht ?_ (by decide)
  exact isReal_ofBits _ (by decide)

theorem isReal_inverse {u w s : EReal} (hu : IsReal u) (hw : IsReal w) (hs : IsReal s) : IsReal (inverse (F := Ideal) u w s) :=
  (IsReal.select _ (isReal_centre (hw.sub (isReal_ofBits _ (by decide)))) (isReal_outer (hs.sub (isReal_ofBits _ (by decide))))).mul hu

/-- The two spellings of the normal deviate agree at a uniform one of (-1, 1), and it is a real number. -/
theorem normal_eq (u : ℝ) (h1 : -1 < u) (h2 : u < 1) :
    kernelNormal (F := Ideal) (u : EReal) = hostNormal (F := Ideal) (u : EReal) ∧ IsReal (kernelNormal (F := Ideal) (u : EReal)) := by
  obtain ⟨hw0, hw⟩ := kernelW_value u h1 h2
  have hs : FloatOps.mulf (F := Ideal) (φ := .f32) (FloatOps.rsqrt (kernelW (F := Ideal) (u : EReal))) (kernelW (F := Ideal) (u : EReal))
      = Ideal.sqrt (kernelW (F := Ideal) (u : EReal)) := by
    rw [hw]; exact rsqrt_mul_self _ hw0
  constructor
  · unfold kernelNormal hostNormal
    rw [hs, hostW_eq u h1 h2]
    rfl
  · unfold kernelNormal
    rw [hs, hw, Ideal.sqrt_coe, if_neg (not_lt.mpr hw0)]
    exact (isReal_ofBits _ (by decide)).mul (isReal_inverse (IsReal.coe _) (IsReal.coe _) (IsReal.coe _))

/-- The kernel's noise at a counter is the reference's at the position 42 below it. -/
theorem kernelEps_eq (p : Word) : kernelEps (F := Ideal) (IntOp.addi p 42#32) = hostEps (F := Ideal) p := by
  unfold kernelEps hostEps
  rw [fraction_unit, mix_unit, addApart_eq, show IntOp.addi 0#32 0#32 = 0#32 from rfl]
  generalize bits (mix .vector) addTogether 0#32 (IntOp.addi p 42#32) = b
  obtain ⟨u, h1, h2, e, hlo⟩ := stretch_value b
  have e' : stretch (F := Ideal) (FloatOps.subf (lit 0x3F800000#32) (lit 0xBF7FFFFF#32)) (fraction .vector b) = (u : EReal) := e
  rw [e, e', Ideal.maximumf_def, show (lit 0xBF7FFFFF#32 : Ideal .f32) = Ideal.ofBits .f32 0xBF7FFFFF#32 from rfl, max_eq_right hlo]
  exact (normal_eq u h1 h2).1

/-- The kernel's noise is a real number. -/
theorem isReal_kernelEps (y : Word) : IsReal (kernelEps (F := Ideal) y) := by
  unfold kernelEps
  obtain ⟨u, h1, h2, e, -⟩ := stretch_value (bits (mix .vector) addTogether 0#32 y)
  rw [e]
  exact (normal_eq u h1 h2).2

end Cert.Router

end
-- ==== Proof.Precondition.lean ====
/-
  The precondition read: when every argument's element is below infinity in absolute value, every element is a real
  number.
-/
module

public import proofs.«01_k».proof.Pre_finite
public import proofs.«01_k».proof.Proof.NoiseEq
public import Idealize.ShloMosaic.Lib.ReduceAll

@[expose] public section

noncomputable section

namespace Cert.Router

open Idealize.ShloMosaic Cert.Pre_finite

/-- The shape facts that the printed precondition states. -/
theorem finiteFacts : Cert.Pre_finite.Facts where
  bcast_S_S32768x768 := by decide
  reducesTo_S32768x768_S_d0_1 := by decide
  h_S_ := by decide
  bcast_S_S768x64 := by decide
  reducesTo_S768x64_S_d0_1 := by decide
  bcast_S_S64 := by decide
  reducesTo_S64_S_d0 := by decide

theorem top_value : Ideal.ofBits .f32 0x7F800000#32 = ⊤ := by
  unfold Ideal.ofBits Ideal.ieee
  simp only [show BitVec.extractLsb' (8 + 23) 1 0x7F800000#32 = 0#1 by decide,
    show BitVec.extractLsb' 23 8 0x7F800000#32 = 255#8 by decide, show BitVec.extractLsb' 0 23 0x7F800000#32 = 0#23 by decide]
  rfl

/-- An extended real whose absolute value is below infinity is a real number. -/
theorem isReal_of_abs_lt {x : EReal} (h : max x (-x) < ⊤) : IsReal x := by
  induction x with
  | bot => simp at h
  | top => simp at h
  | coe r => exact IsReal.coe r

/-- When the conjunction over a whole array of `abs x < inf` is true, the array holds real numbers. -/
theorem isReal_of_all {s : Shape} {axes : List (Fin s.rank)} (a : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf a) (broadcastInDim s ![] hb (constant (F := Ideal) S_ .f32 0x7F800000#32)))
      (constantI S_ 1 1#1) hr h0 j = 1#1) (i : s.Idx) : IsReal (a i) := by
  haveI : Subsingleton S_.Idx := ⟨fun a b => funext fun d => d.elim0⟩
  have e := Host.reduce_andi_all _ _ hr h0 j h i
  have e' : BitVec.ofBool (decide (max (a i) (-(a i)) < Ideal.ofBits .f32 0x7F800000#32)) = 1#1 := e
  rw [top_value] at e'
  refine isReal_of_abs_lt ?_
  by_contra hn
  rw [decide_eq_false hn] at e'
  exact absurd e' (by decide)

/-- The precondition: every argument holds real numbers. -/
theorem isReal_of_finite [Cert.Pre_finite.Facts] (X : FVec Ideal S32768x768 .f32) (Wg : FVec Ideal S768x64 .f32) (bg : FVec Ideal S64 .f32)
    (Wn : FVec Ideal S768x64 .f32) (bn : FVec Ideal S64 .f32) (h : Cert.Pre_finite.fn (F := Ideal) X Wg bg Wn bn = fun _ => 1#1) :
    (∀ i, IsReal (X i)) ∧ (∀ i, IsReal (Wg i)) ∧ (∀ i, IsReal (bg i)) ∧ (∀ i, IsReal (Wn i)) ∧ (∀ i, IsReal (bn i)) := by
  have e := congrFun h (fun d => d.elim0)
  unfold Cert.Pre_finite.fn Cert.Pre_finite.fn_part1 at e
  dsimp only at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all X _ _ _ _ h0, isReal_of_all Wg _ _ _ _ h1, isReal_of_all bg _ _ _ _ h2, isReal_of_all Wn _ _ _ _ h3,
    isReal_of_all bn _ _ _ _ h4⟩

end Cert.Router

end
-- ==== Proof.Chunk.lean ====
/-
  The kernel's arithmetic on one 256-row chunk of a block, operation by operation and under one name each: the
  packed counters, their normal deviates put in rows, the noisy logits, the two greatest of each row, and the three things stored. Everything is over an arbitrary float instance; nothing is computed here.
-/
module

public import proofs.«01_k».proof.Proof.Gen.KernelIdeal.Value
public import proofs.«01_k».proof.Proof.Noise

@[expose] public section

noncomputable section

namespace Cert.Router

open Idealize.ShloMosaic Idealize.SL.Sem Cert.KernelIdeal Cert.KernelIdeal.Gen

variable {F : FTy → Type} [FloatOps F]

/-! ## The noise of a packed half-lane block -/

/-- The counters of the chunk that starts at row `row0`, packed: 128 rows of two 64-lane halves. -/
def counterV (row0 : BitVec 32) : IVec S128x128 32 := addi k0_pay8 (broadcast S128x128 (Scalar.muli row0 64#32))

/-- The normal deviates of the chunk, still packed. -/
def normalV (row0 : BitVec 32) : FVec F S128x128 .f32 := fun j => kernelEps (counterV row0 j)

/-- The packed halves put under one another: 256 rows of 64 lanes. -/
def unpackV (e : FVec F S128x128 .f32) : FVec F S256x64 .f32 :=
  concatenate S256x64 0 [⟨S128x64, extractStridedSlice S128x64 ![0, 0] e slices_S128x128_o0_0_S128x64⟩,
    ⟨S128x64, extractStridedSlice S128x64 ![0, 64] e slices_S128x128_o0_64_S128x64⟩] concatenates_S128x64_S128x64_S256x64_d0

/-! ## The noisy logits -/

/-- A linear layer of the chunk's rows. -/
def linearV (x : Vec F S256x768 .f32) (W : Vec F S768x64 .f32) (b : Vec F S64 .f32) : FVec F S256x64 .f32 :=
  addf (matmul (φ₁ := .f32) (φ₂ := .f32) dot_S256x768_S768x64_S256x64_1_0_0_1_n_n none x W (constant S256x64 .f32 0x00000000#32))
    (broadcastTo S256x64 (shapeCast S1x64 b shapeCasts_S64_S1x64) broadcasts_S1x64_S256x64)

/-- Zero in every lane of the chunk. -/
def zeroV : FVec F S256x64 .f32 := broadcast S256x64 (Scalar.ofBits .f32 0x00000000#32)

/-- `softplus`, as jax spells it. -/
def softplusV (z : FVec F S256x64 .f32) : FVec F S256x64 .f32 :=
  select (cmpf .one (subf z zeroV) (subf z zeroV)) (addf z zeroV)
    (addf (maximumf z zeroV) (log1p (exp (subf zeroV (absf (subf z zeroV))))))

/-- The noisy logits of the chunk. -/
def noisyV (row0 : BitVec 32) (x : Vec F S256x768 .f32) (Wg : Vec F S768x64 .f32) (bg : Vec F S64 .f32)
    (Wn : Vec F S768x64 .f32) (bn : Vec F S64 .f32) : FVec F S256x64 .f32 :=
  addf (linearV x Wg bg) (mulf (unpackV (normalV row0)) (softplusV (linearV x Wn bn)))

/-! ## The two greatest of each row -/

/-- The greatest of each row, as a column. -/
def rowMax (z : FVec F S256x64 .f32) : FVec F S256x1 .f32 :=
  shapeCast S256x1 (multiReduction .maximumf [1] S256 z 0xFF800000#32 reduces_S256x64_S256 (.inl rfl) rfl) shapeCasts_S256_S256x1

/-- The first lane, as a float, at which each row attains its greatest. -/
def rowArg (z : FVec F S256x64 .f32) : FVec F S256x1 .f32 :=
  subf (broadcast S256x1 (Scalar.ofBits .f32 0x427C0000#32))
    (rowMax (select (cmpf .oeq z (broadcastTo S256x64 (rowMax z) broadcasts_S256x1_S256x64)) (k0_pay7 (F := F))
      (broadcast S256x64 (Scalar.ofBits .f32 0xFF800000#32))))

/-- The lanes at which a column of lanes points. -/
def hotV (a : FVec F S256x1 .f32) : IVec S256x64 1 :=
  cmpf .oeq (k0_pay6 (F := F)) (broadcastTo S256x64 a broadcasts_S256x1_S256x64)

/-- The row with its greatest struck out. -/
def struckV (z : FVec F S256x64 .f32) : FVec F S256x64 .f32 :=
  select (hotV (rowArg z)) (broadcast S256x64 (Scalar.ofBits .f32 0xFF800000#32)) z

/-- The mask stored. -/
def maskV (z : FVec F S256x64 .f32) : FVec F S256x64 .f32 :=
  sitofp .f32 (extui 32 (ori (hotV (rowArg z)) (hotV (rowArg (struckV z)))) natLt_1_32)

/-- `exp` of the second greatest less the greatest. -/
def gapV (z : FVec F S256x64 .f32) : FVec F S256x1 .f32 := exp (subf (rowMax (struckV z)) (rowMax z))

/-- `1 + gap`. -/
def denomV (z : FVec F S256x64 .f32) : FVec F S256x1 .f32 := addf (broadcast S256x1 (Scalar.ofBits .f32 0x3F800000#32)) (gapV z)

/-- The weights stored. -/
def weightsV (z : FVec F S256x64 .f32) : FVec F S256x2 .f32 :=
  concatenate S256x2 1 [⟨S256x1, divf (broadcast S256x1 (Scalar.ofBits .f32 0x3F800000#32)) (denomV z)⟩, ⟨S256x1, divf (gapV z) (denomV z)⟩]
    concatenates_S256x1_S256x1_S256x2_d1

/-- The lane numbers stored. -/
def indicesV (z : FVec F S256x64 .f32) : IVec S256x2 32 :=
  concatenate S256x2 1 [⟨S256x1, fptosi 32 (rowArg z)⟩, ⟨S256x1, fptosi 32 (rowArg (struckV z))⟩] concatenates_S256x1_S256x1_S256x2_d1

/-! ## A block's eight chunks -/

/-- The first row of the chunk `off` rows into the block of grid point `i`. -/
def chunkRow (i : grid0.Coords) (off : BitVec 32) : BitVec 32 := Scalar.addi (Scalar.muli (BitVec.ofNat 32 (i 0).val) 2048#32) off

/-- The noisy logits of the chunk `off` rows into the block, whose activations are `x`. -/
def chunkV (i : grid0.Coords) (off : BitVec 32) (x : Vec F S256x768 .f32) (x1 : Vec F S768x64 .f32) (x2 : Vec F S64 .f32)
    (x3 : Vec F S768x64 .f32) (x4 : Vec F S64 .f32) : FVec F S256x64 .f32 :=
  noisyV (chunkRow i off) x (View.ld x1 r0_0) (View.ld x2 r0_1) (View.ld x3 r0_0) (View.ld x4 r0_1)

end Cert.Router

end
-- ==== Proof.Blocks.lean ====
/-
  What the body leaves in each of its three output blocks: the eight chunks' results, one under the other.
-/
module

public import proofs.«01_k».proof.Proof.Chunk

@[expose] public section

noncomputable section
namespace Cert.Router
open Idealize.ShloMosaic Idealize.SL.Sem Cert.KernelIdeal Cert.KernelIdeal.Gen
variable {F : FTy → Type} [FloatOps F]
/-- The weights' block. -/
theorem out5_eq (i : grid0.Coords) (x0 : Vec F S2048x768 .f32) (x1 : Vec F S768x64 .f32) (x2 : Vec F S64 .f32) (x3 : Vec F S768x64 .f32) (x4 : Vec F S64 .f32) :
    out0_5 i x0 x1 x2 x3 x4 = View.canon [⟨r0_25, weightsV (chunkV i 1792#32 (View.ld x0 r0_23) x1 x2 x3 x4)⟩,
    ⟨r0_22, weightsV (chunkV i 1536#32 (View.ld x0 r0_20) x1 x2 x3 x4)⟩,
    ⟨r0_19, weightsV (chunkV i 1280#32 (View.ld x0 r0_17) x1 x2 x3 x4)⟩,
    ⟨r0_16, weightsV (chunkV i 1024#32 (View.ld x0 r0_14) x1 x2 x3 x4)⟩,
    ⟨r0_13, weightsV (chunkV i 768#32 (View.ld x0 r0_11) x1 x2 x3 x4)⟩,
    ⟨r0_10, weightsV (chunkV i 512#32 (View.ld x0 r0_8) x1 x2 x3 x4)⟩,
    ⟨r0_7, weightsV (chunkV i 256#32 (View.ld x0 r0_5) x1 x2 x3 x4)⟩,
    ⟨r0_4, weightsV (chunkV i 0#32 (View.ld x0 r0_2) x1 x2 x3 x4)⟩] := by rfl

/-- The lane numbers' block. -/
theorem out6_eq (i : grid0.Coords) (x0 : Vec F S2048x768 .f32) (x1 : Vec F S768x64 .f32) (x2 : Vec F S64 .f32) (x3 : Vec F S768x64 .f32) (x4 : Vec F S64 .f32) :
    out0_6 i x0 x1 x2 x3 x4 = View.canon [⟨r0_25, indicesV (chunkV i 1792#32 (View.ld x0 r0_23) x1 x2 x3 x4)⟩,
    ⟨r0_22, indicesV (chunkV i 1536#32 (View.ld x0 r0_20) x1 x2 x3 x4)⟩,
    ⟨r0_19, indicesV (chunkV i 1280#32 (View.ld x0 r0_17) x1 x2 x3 x4)⟩,
    ⟨r0_16, indicesV (chunkV i 1024#32 (View.ld x0 r0_14) x1 x2 x3 x4)⟩,
    ⟨r0_13, indicesV (chunkV i 768#32 (View.ld x0 r0_11) x1 x2 x3 x4)⟩,
    ⟨r0_10, indicesV (chunkV i 512#32 (View.ld x0 r0_8) x1 x2 x3 x4)⟩,
    ⟨r0_7, indicesV (chunkV i 256#32 (View.ld x0 r0_5) x1 x2 x3 x4)⟩,
    ⟨r0_4, indicesV (chunkV i 0#32 (View.ld x0 r0_2) x1 x2 x3 x4)⟩] := by rfl

/-- The mask's block. -/
theorem out7_eq (i : grid0.Coords) (x0 : Vec F S2048x768 .f32) (x1 : Vec F S768x64 .f32) (x2 : Vec F S64 .f32) (x3 : Vec F S768x64 .f32) (x4 : Vec F S64 .f32) :
    out0_7 i x0 x1 x2 x3 x4 = View.canon [⟨r0_24, maskV (chunkV i 1792#32 (View.ld x0 r0_23) x1 x2 x3 x4)⟩,
    ⟨r0_21, maskV (chunkV i 1536#32 (View.ld x0 r0_20) x1 x2 x3 x4)⟩,
    ⟨r0_18, maskV (chunkV i 1280#32 (View.ld x0 r0_17) x1 x2 x3 x4)⟩,
    ⟨r0_15, maskV (chunkV i 1024#32 (View.ld x0 r0_14) x1 x2 x3 x4)⟩,
    ⟨r0_12, maskV (chunkV i 768#32 (View.ld x0 r0_11) x1 x2 x3 x4)⟩,
    ⟨r0_9, maskV (chunkV i 512#32 (View.ld x0 r0_8) x1 x2 x3 x4)⟩,
    ⟨r0_6, maskV (chunkV i 256#32 (View.ld x0 r0_5) x1 x2 x3 x4)⟩,
    ⟨r0_3, maskV (chunkV i 0#32 (View.ld x0 r0_2) x1 x2 x3 x4)⟩] := by rfl

end Cert.Router
-- ==== Proof.TopTwo.lean ====
/-
  The two greatest of a row of extended reals. `ranked z k` is the lane at rank `k` of the stable sort, greater
  first: each rank's lane is ahead of every later one's, being greater, or equal and of lower lane.
-/
module

public import Idealize.ShloMosaic.Lib.SortFacts
public import Idealize.ShloMosaic.PureOps.Ideal.Laws

@[expose] public section

noncomputable section

namespace Cert.Router

open Idealize.ShloMosaic

section

variable {n : ℕ} (z : Fin n → EReal)

/-- Lane `a` is ahead of lane `b`: greater, or equal and lower. -/
def Ahead (a b : Fin n) : Prop := z b < z a ∨ (z b = z a ∧ a < b)

/-- Lane `a`'s element sorts before lane `b`'s. -/
def sortsBefore (a b : Fin n) : Bool := FloatOps.cmpfTotal (F := Ideal) (φ := .f32) .gt (z a) (z b) == 1#1

theorem sortsBefore_iff (a b : Fin n) : sortsBefore z a b = true ↔ z b < z a := by
  unfold sortsBefore
  rw [Ideal.cmpfTotal_def]
  show (BitVec.ofBool (decide (z b < z a)) == 1#1) = true ↔ _
  by_cases h : z b < z a <;> simp [h]

theorem ahead_insertBefore (a : Fin n) (l : List (Fin n)) (hl : l.Pairwise (Ahead z)) (ha : ∀ b ∈ l, a < b) :
    (insertBefore (sortsBefore z) a l).Pairwise (Ahead z) := by
  induction l with
  | nil => exact List.pairwise_singleton _ _
  | cons b l ih =>
    obtain ⟨hb, hl'⟩ := List.pairwise_cons.mp hl
    have hab : a < b := ha b List.mem_cons_self
    have ha' : ∀ c ∈ l, a < c := fun c hc => ha c (List.mem_cons_of_mem b hc)
    unfold insertBefore
    split
    · next h =>
      rw [sortsBefore_iff] at h
      refine List.pairwise_cons.mpr ⟨fun c hc => ?_, ih hl' ha'⟩
      rcases List.mem_cons.mp ((perm_insertBefore _ a l).mem_iff.mp hc) with rfl | hc
      · exact Or.inl h
      · exact hb c hc
    · next h =>
      rw [sortsBefore_iff, not_lt] at h
      refine List.pairwise_cons.mpr ⟨fun c hc => ?_, hl⟩
      have hc' : z c ≤ z a := by
        rcases List.mem_cons.mp hc with rfl | hc
        · exact h
        · rcases hb c hc with h' | ⟨h', -⟩
          · exact h'.le.trans h
          · exact h'.le.trans h
      exact hc'.lt_or_eq.imp id fun e => ⟨e, ha c hc⟩

theorem ahead_stableSort (l : List (Fin n)) (hl : l.Pairwise (· < ·)) : (stableSort (sortsBefore z) l).Pairwise (Ahead z) := by
  induction l with
  | nil => exact List.Pairwise.nil
  | cons a l ih =>
    obtain ⟨ha, hl'⟩ := List.pairwise_cons.mp hl
    unfold stableSort
    exact ahead_insertBefore z a _ (ih hl') fun b hb => ha b ((perm_stableSort _ l).mem_iff.mp hb)

/-- The lane at rank `k`. -/
def ranked (k : Fin n) : Fin n := sortedFrom (sortsBefore z) k

theorem ranked_ahead {i j : Fin n} (hij : i < j) : Ahead z (ranked z i) (ranked z j) := by
  have hp : ∀ a b : Fin (sortPositions n (sortsBefore z)).length, a < b →
      Ahead z ((sortPositions n (sortsBefore z)).get a) ((sortPositions n (sortsBefore z)).get b) :=
    List.pairwise_iff_get.mp (ahead_stableSort z _ (List.pairwise_lt_finRange n))
  exact hp _ _ hij

/-- A lane is at one rank. -/
theorem exists_rank (m : Fin n) : ∃ k, ranked z k = m := sortedFrom_surjective _ m

theorem ranked_injective : Function.Injective (ranked z) := sortedFrom_injective _

theorem ranked_eq (k : Fin n) : ranked z k = sortedFrom (sortsBefore z) k := rfl

attribute [irreducible] ranked

end

/-! ## The first two of sixty-four -/

variable (z : Fin 64 → EReal)

/-- The first lane of the greatest. -/
abbrev first : Fin 64 := ranked z 0

/-- The first lane of the greatest of the others. -/
abbrev second : Fin 64 := ranked z 1

theorem first_ahead (m : Fin 64) (h : m ≠ first z) : Ahead z (first z) m := by
  obtain ⟨k, rfl⟩ := exists_rank z m
  refine ranked_ahead z (Fin.pos_iff_ne_zero.mpr ?_)
  rintro rfl
  exact h rfl

theorem second_ahead (m : Fin 64) (h : m ≠ first z) (h' : m ≠ second z) : Ahead z (second z) m := by
  obtain ⟨k, rfl⟩ := exists_rank z m
  refine ranked_ahead z ?_
  have h0 : k ≠ 0 := by rintro rfl; exact h rfl
  have h1 : k ≠ 1 := by rintro rfl; exact h' rfl
  have h0' : k.val ≠ 0 := fun e => h0 (Fin.ext e)
  have h1' : k.val ≠ 1 := fun e => h1 (Fin.ext e)
  exact Fin.lt_def.mpr (show 1 < k.val by omega)

theorem second_ne_first : second z ≠ first z := fun h => by
  have := ranked_injective z h
  exact absurd this (by decide)

/-! ## The same two, by greatest value and lowest lane -/

/-- `a` is the first lane at which `y` is greatest. -/
def IsFirst (y : Fin 64 → EReal) (a : Fin 64) : Prop := (∀ m, y m ≤ y a) ∧ ∀ m, y m = y a → a ≤ m

theorem isFirst_first : IsFirst z (first z) := by
  constructor <;> intro m <;> by_cases h : m = first z
  · rw [h]
  · exact (first_ahead z m h).elim le_of_lt fun h => h.1.le
  · intro _; rw [h]
  · exact fun e => (first_ahead z m h).elim (fun h => absurd e h.ne) fun h => h.2.le

/-- The row with its greatest struck out. -/
def struck : Fin 64 → EReal := fun m => if m = first z then ⊥ else z m

theorem struck_second : struck z (second z) = z (second z) := if_neg (second_ne_first z)

theorem isFirst_second (hz : z (second z) ≠ ⊥) : IsFirst (struck z) (second z) := by
  constructor <;> intro m <;> rw [struck_second] <;> unfold struck <;> split
  · exact bot_le
  · next h =>
    by_cases h' : m = second z
    · rw [h']
    · exact (second_ahead z m h h').elim le_of_lt fun h => h.1.le
  · exact fun e => absurd e.symm hz
  · next h =>
    intro e
    by_cases h' : m = second z
    · rw [h']
    · exact (second_ahead z m h h').elim (fun h => absurd e h.ne) fun h => h.2.le

end Cert.Router

end
-- ==== Proof.KernelRow.lean ====
/-
  The kernel's selection read at one row over the extended reals. A row's maximum is its greatest element, the lane
  found from the reversed lane numbers is the first lane of it, and striking that lane out leaves the second
  greatest to be found in the same way.
-/
module

public import proofs.«01_k».proof.Proof.Chunk
public import proofs.«01_k».proof.Proof.NoiseEq
public import proofs.«01_k».proof.Proof.TopTwo
public import Idealize.ShloMosaic.Lib.ValueLayoutCasts

@[expose] public section

noncomputable section

namespace Cert.Router

open Idealize.ShloMosaic Idealize.ShloMosaic.ValueIdx Cert.KernelIdeal Cert.KernelIdeal.Gen

/-! ## Literals -/

theorem bottom_value : Ideal.ofBits .f32 0xFF800000#32 = ⊥ := by
  unfold Ideal.ofBits Ideal.ieee
  simp only [show BitVec.extractLsb' (8 + 23) 1 0xFF800000#32 = 1#1 by decide,
    show BitVec.extractLsb' 23 8 0xFF800000#32 = 255#8 by decide, show BitVec.extractLsb' 0 23 0xFF800000#32 = 0#23 by decide]
  rfl

theorem sixtyThree_value : Ideal.ofBits .f32 0x427C0000#32 = ((63 : ℝ) : EReal) := by
  unfold Ideal.ofBits Ideal.ieee
  simp only [show BitVec.extractLsb' (8 + 23) 1 0x427C0000#32 = 0#1 by decide,
    show BitVec.extractLsb' 23 8 0x427C0000#32 = 132#8 by decide, show BitVec.extractLsb' 0 23 0x427C0000#32 = 8126464#23 by decide]
  rw [if_neg (by decide), if_neg (by decide)]
  refine congrArg _ ?_
  norm_num

theorem bottomV_apply {s : Shape} (i : s.Idx) : broadcast s (Scalar.ofBits (F := Ideal) .f32 0xFF800000#32) i = ⊥ := bottom_value

theorem oneV_apply {s : Shape} (i : s.Idx) : broadcast s (Scalar.ofBits (F := Ideal) .f32 0x3F800000#32) i = (1 : EReal) :=
  Ideal.ofBits_one_f32

theorem fptosi_apply {s : Shape} (v : FVec Ideal s .f32) (i : s.Idx) : fptosi 32 v i = Ideal.fptosi 32 (v i) := rfl

theorem exp_apply {s : Shape} (v : FVec Ideal s .f32) (i : s.Idx) : exp v i = Ideal.exp (v i) := rfl

/-! ## A row of a chunk -/

/-- Row `r` of a chunk. -/
def rowOf (z : FVec Ideal S256x64 .f32) (r : Fin 256) : Fin 64 → EReal := fun m => z (ix2 r m)

theorem lane_value (r : Fin 256) (m : Fin 64) : k0_pay6 (F := Ideal) (ix2 r m) = ((m.val : ℝ) : EReal) := by
  show (((iota .tc S256x64 32 [1] iota_S256x64_d1_w32 (ix2 r m)).toInt : ℝ) : EReal) = _
  rw [iota_single_apply]
  have h : (BitVec.ofNat 32 ((ix2 r m : S256x64.Idx) 1).val).toInt = (m.val : ℤ) := by
    show (BitVec.ofNat 32 m.val).toInt = _
    have := m.isLt
    rw [BitVec.toInt_eq_toNat_of_lt] <;> rw [BitVec.toNat_ofNat, Nat.mod_eq_of_lt (by omega)]
    omega
  rw [h]
  push_cast
  rfl

theorem reversed_value (r : Fin 256) (m : Fin 64) : k0_pay7 (F := Ideal) (ix2 r m) = ((63 - m.val : ℝ) : EReal) := by
  show Ideal.ofBits .f32 0x427C0000#32 - k0_pay6 (F := Ideal) (ix2 r m) = _
  rw [lane_value, sixtyThree_value, EReal.coe_sub]

theorem column_apply (a : FVec Ideal S256x1 .f32) (r : Fin 256) (m : Fin 64) :
    broadcastTo S256x64 a broadcasts_S256x1_S256x64 (ix2 r m) = a (ix2 r 0) :=
  broadcastTo_apply a _ _ _ fun d => by
    match d with
    | ⟨0, _⟩ => rfl
    | ⟨1, _⟩ => rfl

theorem rowMax_fold (z : FVec Ideal S256x64 .f32) (r : Fin 256) (u : Fin 1) :
    rowMax z (ix2 r u) = Finset.univ.fold max ⊥ (rowOf z r) := by
  unfold rowMax
  refine (shapeCast_a_a1_apply _ _ r u).trans ((Ideal.multiReduction_maximumf_single z 0xFF800000#32 _ _ _ _).trans ?_)
  rw [show (FloatOps.ofBits .f32 0xFF800000#32 : Ideal .f32) = ⊥ from bottom_value]
  have hf : z ∘ reduces_S256x64_S256.lift (ix1 r) = rowOf z r := funext fun k => congrArg z (Shape.idx_ext₂ rfl rfl)
  rw [hf]
  rfl

/-- The row maximum is the element at the first lane of the greatest. -/
theorem rowMax_eq {z : FVec Ideal S256x64 .f32} {r : Fin 256} {a : Fin 64} (h : IsFirst (rowOf z r) a) (u : Fin 1) :
    rowMax z (ix2 r u) = rowOf z r a := by
  rw [rowMax_fold]
  refine le_antisymm ((Finset.fold_max_le _).mpr ⟨bot_le, fun m _ => h.1 m⟩) ((Finset.le_fold_max _).mpr (Or.inr ⟨a, Finset.mem_univ a, le_rfl⟩))

theorem cmp_oeq (x y : EReal) : FloatOps.cmpf (F := Ideal) (φ := .f32) .oeq x y = BitVec.ofBool (decide (x = y)) := rfl

theorem select_ofBool {α : Type} (p : Prop) [Decidable p] (x y : α) :
    Scalar.select (BitVec.ofBool (decide p)) x y = if p then x else y := by
  by_cases h : p <;> simp [h, Scalar.select]

/-- The lane found from the reversed numbers is the first lane of the greatest. -/
theorem rowArg_eq {z : FVec Ideal S256x64 .f32} {r : Fin 256} {a : Fin 64} (h : IsFirst (rowOf z r) a) (u : Fin 1) :
    rowArg z (ix2 r u) = ((a.val : ℝ) : EReal) := by
  let c : FVec Ideal S256x64 .f32 := select (cmpf .oeq z (broadcastTo S256x64 (rowMax z) broadcasts_S256x1_S256x64)) (k0_pay7 (F := Ideal))
      (broadcast S256x64 (Scalar.ofBits .f32 0xFF800000#32))
  have hc : ∀ m, rowOf c r m = if rowOf z r m = rowOf z r a then ((63 - m.val : ℝ) : EReal) else ⊥ := fun m => by
    show Scalar.select (FloatOps.cmpf (F := Ideal) (φ := .f32) .oeq (z (ix2 r m)) (broadcastTo S256x64 (rowMax z) broadcasts_S256x1_S256x64 (ix2 r m)))
      (k0_pay7 (F := Ideal) (ix2 r m)) (Ideal.ofBits .f32 0xFF800000#32) = _
    rw [cmp_oeq, select_ofBool, column_apply, rowMax_eq h, reversed_value, bottom_value]
    rfl
  have ha : rowOf c r a = ((63 - a.val : ℝ) : EReal) := by rw [hc, if_pos rfl]
  have hmax : ∀ m, rowOf c r m ≤ ((63 - a.val : ℝ) : EReal) := fun m => by
    rw [hc]
    split
    · next e =>
      have : (a.val : ℝ) ≤ m.val := by exact_mod_cast h.2 m e
      rw [EReal.coe_le_coe_iff]
      linarith
    · exact bot_le
  show Ideal.ofBits .f32 0x427C0000#32 - rowMax c (ix2 r u) = _
  rw [rowMax_fold, show Finset.univ.fold max ⊥ (rowOf c r) = ((63 - a.val : ℝ) : EReal) from
    le_antisymm ((Finset.fold_max_le _).mpr ⟨bot_le, fun m _ => hmax m⟩)
      ((Finset.le_fold_max _).mpr (Or.inr ⟨a, Finset.mem_univ a, ha.ge⟩)), sixtyThree_value, ← EReal.coe_sub]
  exact congrArg _ (by ring)

/-- The lanes a column of one lane points at. -/
theorem hotV_eq {a : FVec Ideal S256x1 .f32} {r : Fin 256} {k : Fin 64} (h : a (ix2 r 0) = ((k.val : ℝ) : EReal)) (m : Fin 64) :
    hotV a (ix2 r m) = BitVec.ofBool (decide (m = k)) := by
  show FloatOps.cmpf (F := Ideal) (φ := .f32) .oeq (k0_pay6 (F := Ideal) (ix2 r m)) (broadcastTo S256x64 a broadcasts_S256x1_S256x64 (ix2 r m)) = _
  rw [cmp_oeq, column_apply, lane_value, h]
  congr 1
  rw [decide_eq_decide, EReal.coe_eq_coe_iff, Nat.cast_inj, Fin.ext_iff]

theorem rowOf_struckV (z : FVec Ideal S256x64 .f32) (r : Fin 256) : rowOf (struckV z) r = struck (rowOf z r) := by
  funext m
  unfold rowOf struckV
  rw [select_apply, hotV_eq (rowArg_eq (isFirst_first _) 0), select_ofBool, bottomV_apply]
  rfl

/-- Two bits' disjunction, as a float. -/
theorem oneIf_or (p q : Prop) [Decidable p] [Decidable q] :
    (((((BitVec.ofBool (decide p) ||| BitVec.ofBool (decide q)).setWidth 32).toInt : ℝ)) : EReal) = if p ∨ q then (1 : EReal) else 0 := by
  by_cases hp : p <;> by_cases hq : q <;> simp [hp, hq]

/-- A lane number read back from its float. -/
theorem fptosi_lane (a : Fin 64) : Ideal.fptosi 32 ((a.val : ℝ) : EReal) = BitVec.ofNat 32 a.val := by
  have ha : (a.val : ℤ) < 64 := by exact_mod_cast a.isLt
  have e : Ideal.toIntClamped (-(2 ^ (32 - 1) : Nat)) ((2 ^ (32 - 1) : Nat) - 1) ((a.val : ℝ) : EReal) = (a.val : ℤ) := by
    rw [Ideal.toIntClamped_coe, if_pos (Nat.cast_nonneg _), Int.floor_natCast]
    rw [min_eq_right (by norm_num; omega), max_eq_right (by norm_num)]
  unfold Ideal.fptosi
  rw [e]
  exact BitVec.ofInt_natCast 32 a.val

/-- Two columns side by side. -/
theorem columns_apply {α : Type} (a b : S256x1.Idx → α) (r : Fin 256) (k : Fin 2) :
    concatenate S256x2 1 [⟨S256x1, a⟩, ⟨S256x1, b⟩] concatenates_S256x1_S256x1_S256x2_d1 (ix2 r k)
      = if k = 0 then a (ix2 r 0) else b (ix2 r 0) := by
  match k with
  | ⟨0, _⟩ =>
    exact concatenate_pair_apply_left (t := S256x2) 1 a b _ _ rfl (ix2 r 0) fun d => by match d with | ⟨0, _⟩ => rfl | ⟨1, _⟩ => rfl
  | ⟨1, _⟩ =>
    exact concatenate_pair_apply_right (t := S256x2) 1 a b _ _ rfl rfl (ix2 r 0)
      (fun d hd => by match d with | ⟨0, _⟩ => rfl | ⟨1, _⟩ => exact absurd rfl hd) rfl

section row

variable {z : FVec Ideal S256x64 .f32} {r : Fin 256} (hz : ∀ m, IsReal (rowOf z r m))
include hz

theorem isFirst_struckV : IsFirst (rowOf (struckV z) r) (second (rowOf z r)) := by
  rw [rowOf_struckV]
  refine isFirst_second _ ?_
  obtain ⟨x, hx⟩ := hz (second (rowOf z r))
  rw [hx]
  exact EReal.coe_ne_bot x

/-- The mask is one at the two greatest and zero elsewhere. -/
theorem maskV_eq (m : Fin 64) :
    maskV z (ix2 r m) = if m = first (rowOf z r) ∨ m = second (rowOf z r) then (1 : EReal) else 0 := by
  show ((((hotV (rowArg z) (ix2 r m) ||| hotV (rowArg (struckV z)) (ix2 r m)).setWidth 32).toInt : ℝ) : EReal) = _
  rw [hotV_eq (rowArg_eq (isFirst_first _) 0), hotV_eq (rowArg_eq (isFirst_struckV hz) 0)]
  exact oneIf_or _ _

/-- The lanes stored are the two greatest's. -/
theorem indicesV_eq (k : Fin 2) : indicesV z (ix2 r k)
    = BitVec.ofNat 32 (if k = 0 then first (rowOf z r) else second (rowOf z r)).val := by
  unfold indicesV
  rw [columns_apply]
  rw [fptosi_apply, fptosi_apply, rowArg_eq (isFirst_first _) 0, rowArg_eq (isFirst_struckV hz) 0, fptosi_lane, fptosi_lane]
  split <;> rfl

/-- The second greatest less the greatest, exponentiated. -/
theorem gapV_eq : gapV z (ix2 r 0) = Ideal.exp (rowOf z r (second (rowOf z r)) - rowOf z r (first (rowOf z r))) := by
  unfold gapV
  rw [exp_apply, subf_apply, rowMax_eq (isFirst_struckV hz) 0, rowMax_eq (isFirst_first (rowOf z r)) 0, rowOf_struckV, struck_second]

/-- The weights stored. -/
theorem weightsV_eq (k : Fin 2) : weightsV z (ix2 r k)
    = Ideal.div (if k = 0 then 1 else Ideal.exp (rowOf z r (second (rowOf z r)) - rowOf z r (first (rowOf z r))))
      (1 + Ideal.exp (rowOf z r (second (rowOf z r)) - rowOf z r (first (rowOf z r)))) := by
  unfold weightsV
  rw [columns_apply]
  rw [divf_apply, divf_apply, oneV_apply, denomV, addf_apply, oneV_apply, gapV_eq hz]
  split <;> rfl

end row

end Cert.Router

end
-- ==== Proof.Noisy.lean ====
/-
  The noisy logits over the extended reals: the kernel's at a row of a chunk are the reference's at that row of the
  whole array, and when the arguments are real numbers so are they.
-/
module

public import proofs.«01_k».proof.Proof.KernelRow
public import proofs.«01_k».proof.Proof.Gen.ReferenceIdeal.Read

@[expose] public section

noncomputable section

namespace Cert.Router

open Idealize.ShloMosaic Idealize.ShloMosaic.ValueIdx Cert.KernelIdeal Cert.KernelIdeal.Gen Cert.ReferenceIdeal.Read

/-- The whole activations' shape, and the whole mask's. -/
abbrev Activations : Shape := ⟨2, ![32768, 768]⟩
abbrev Logits : Shape := ⟨2, ![32768, 64]⟩

/-! ## The noise -/

/-- The reference's noise at a position is its normal deviate of the position. -/
theorem referenceNoise {F : FTy → Type} [FloatOps F] (i : Logits.Idx) : val_main_v268 (F := F) i = hostEps (val_main_v13 (F := F) i) := rfl

theorem halves_apply (e : FVec Ideal S128x128 .f32) (q : Fin 128) (m : Fin 64) :
    unpackV e (ix2 ⟨q.val, by omega⟩ m) = e (ix2 q ⟨m.val, by omega⟩)
      ∧ unpackV e (ix2 ⟨128 + q.val, by omega⟩ m) = e (ix2 q ⟨64 + m.val, by omega⟩) := by
  constructor
  · refine (concatenate_pair_apply_left (t := S256x64) (s₁ := S128x64) (s₂ := S128x64) 0 _ _ _ _ rfl (ix2 q m)
      fun d => by match d with | ⟨0, _⟩ => rfl | ⟨1, _⟩ => rfl).trans ?_
    exact extractStridedSlice_apply _ e _ _ _ fun d => by
      match d with
      | ⟨0, _⟩ => exact (Nat.zero_add _).symm
      | ⟨1, _⟩ => exact (Nat.zero_add _).symm
  · refine (concatenate_pair_apply_right (t := S256x64) (s₁ := S128x64) (s₂ := S128x64) 0 _ _ _ _ rfl rfl (ix2 q m)
      (fun d hd => by match d with | ⟨0, _⟩ => exact absurd rfl hd | ⟨1, _⟩ => rfl) (Nat.add_comm _ _)).trans ?_
    exact extractStridedSlice_apply _ e _ _ _ fun d => by
      match d with
      | ⟨0, _⟩ => exact (Nat.zero_add _).symm
      | ⟨1, _⟩ => rfl

theorem packed_sge (l : Fin 128) : IntOp.cmpi .sge (BitVec.ofNat 32 l.val) 64#32 = BitVec.ofBool (decide (64 ≤ l.val)) := by
  revert l
  decide

theorem packed_counter (row0 : Word) (q l : Fin 128) : counterV row0 (ix2 q l)
    = BitVec.ofNat 32 q.val * 64#32 + BitVec.ofNat 32 l.val + 42#32 + (if 64 ≤ l.val then 8128#32 else 0#32) + row0 * 64#32 := by
  have e : counterV row0 (ix2 q l) = iota .tc S128x128 32 [0] iota_S128x128_d0_w32 (ix2 q l) * 64#32
      + iota .tc S128x128 32 [1] iota_S128x128_d1_w32 (ix2 q l) + 42#32
      + Scalar.select (IntOp.cmpi .sge (iota .tc S128x128 32 [1] iota_S128x128_d1_w32 (ix2 q l)) 64#32) 8128#32 0#32 + row0 * 64#32 := rfl
  rw [e, iota_single_apply, iota_single_apply]
  show BitVec.ofNat 32 q.val * 64#32 + BitVec.ofNat 32 l.val + 42#32
    + Scalar.select (IntOp.cmpi .sge (BitVec.ofNat 32 l.val) 64#32) 8128#32 0#32 + row0 * 64#32 = _
  rw [packed_sge, select_ofBool]

theorem position_value (R : Fin 32768) (m : Fin 64) :
    val_main_v13 (F := Ideal) (ix2 R m : Logits.Idx) = BitVec.ofNat 32 R.val * 64#32 + BitVec.ofNat 32 m.val := rfl

/-- The kernel's unpacked noise is the reference's. -/
theorem noise_eq (R0 : ℕ) (hR : R0 + 256 ≤ 32768) (r : Fin 256) (m : Fin 64) :
    unpackV (normalV (F := Ideal) (BitVec.ofNat 32 R0)) (ix2 r m)
      = val_main_v268 (F := Ideal) (ix2 ⟨R0 + r.val, by omega⟩ m : Logits.Idx) := by
  rw [referenceNoise, ← kernelEps_eq, position_value]
  by_cases h : r.val < 128
  · have e := (halves_apply (normalV (F := Ideal) (BitVec.ofNat 32 R0)) ⟨r.val, h⟩ m).1
    refine e.trans (congrArg kernelEps ((packed_counter _ _ _).trans ?_))
    have hm := m.isLt
    rw [if_neg (by show ¬64 ≤ m.val; omega)]
    show _ = BitVec.ofNat 32 (R0 + r.val) * 64#32 + BitVec.ofNat 32 m.val + 42#32
    simp only [← BitVec.ofNat_add, ← BitVec.ofNat_mul]
    congr 1
    ring
  · have e := (halves_apply (normalV (F := Ideal) (BitVec.ofNat 32 R0)) ⟨r.val - 128, by omega⟩ m).2
    have hr : (⟨128 + (r.val - 128), by omega⟩ : Fin 256) = r := Fin.ext (by show 128 + (r.val - 128) = r.val; omega)
    rw [← hr]
    refine e.trans (congrArg kernelEps ((packed_counter _ _ _).trans ?_))
    have hm := m.isLt
    rw [if_pos (by show 64 ≤ 64 + m.val; omega)]
    show BitVec.ofNat 32 (r.val - 128) * 64#32 + BitVec.ofNat 32 (64 + m.val) + 42#32 + 8128#32 + BitVec.ofNat 32 R0 * 64#32
      = BitVec.ofNat 32 (R0 + (128 + (r.val - 128))) * 64#32 + BitVec.ofNat 32 m.val + 42#32
    simp only [← BitVec.ofNat_add, ← BitVec.ofNat_mul]
    congr 1
    ring

/-! ## The linear layers -/

theorem linear_sum (x : Vec Ideal S256x768 .f32) (W : Vec Ideal S768x64 .f32) (r : Fin 256) (m : Fin 64) :
    matmul (F := Ideal) (φ₁ := .f32) (φ₂ := .f32) dot_S256x768_S768x64_S256x64_1_0_0_1_n_n none x W (constant S256x64 .f32 0x00000000#32) (ix2 r m)
      = ∑ k : Fin 768, x (ix2 r k) * W (ix2 k m) := by
  refine (Ideal.matmul_constant_zero_apply dot_S256x768_S768x64_S256x64_1_0_0_1_n_n none x W (ix2 r m)).trans ?_
  rw [← Equiv.sum_comp (contrEquiv1 dot_S256x768_S768x64_S256x64_1_0_0_1_n_n 768 rfl rfl).symm]
  refine Finset.sum_congr rfl fun k _ => ?_
  have hk := contrEquiv1_symm_val dot_S256x768_S768x64_S256x64_1_0_0_1_n_n 768 rfl rfl k
  refine congrArg₂ (· * ·) (congrArg x (Shape.idx_ext₂ ?_ ?_)) (congrArg W (Shape.idx_ext₂ ?_ ?_))
  · unfold DotDims.lhsIdx
    rw [dif_neg (by decide), dif_pos (by decide)]
    rfl
  · exact (dot_S256x768_S768x64_S256x64_1_0_0_1_n_n.lhsIdx_val_of_single rfl _ _).trans hk
  · exact (dot_S256x768_S768x64_S256x64_1_0_0_1_n_n.rhsIdx_val_of_single rfl _ _).trans hk
  · unfold DotDims.rhsIdx
    rw [dif_neg (by decide), dif_pos (by decide)]
    rfl

theorem bias_apply (b : Vec Ideal S64 .f32) (r : Fin 256) (m : Fin 64) :
    broadcastTo S256x64 (shapeCast S1x64 b shapeCasts_S64_S1x64) broadcasts_S1x64_S256x64 (ix2 r m) = b (ix1 m) :=
  (broadcastTo_1b_ab_apply _ _ r m).trans (shapeCast_a_1a_apply b _ _ m)

/-- A linear layer of the reference, read at a position. -/
theorem referenceLinear (X : Activations.Idx → EReal) (W : Vec Ideal S768x64 .f32) (b : Vec Ideal S64 .f32) (R : Fin 32768) (m : Fin 64) :
    val_main_v3 (F := Ideal) X W b (ix2 R m : Logits.Idx) = (∑ k : Fin 768, X (ix2 R k) * W (ix2 k m)) + b (ix1 m) := by
  rw [val_main_v3_apply, val_main_v0_apply, val_main_v2_apply, val_main_v1_apply]
  refine congrArg₂ (· + ·) (Finset.sum_congr rfl fun k _ => congrArg₂ (· * ·) (congrArg X ?_) (congrArg W ?_)) (congrArg b ?_)
  · exact Shape.idx_ext₂ rfl rfl
  · exact Shape.idx_ext₂ rfl rfl
  · funext d; match d with | ⟨0, _⟩ => rfl

theorem linear_eq (R0 : ℕ) (hR : R0 + 256 ≤ 32768) (X : Activations.Idx → EReal) (x : Vec Ideal S256x768 .f32)
    (hx : ∀ (r : Fin 256) (k : Fin 768), x (ix2 r k) = X (ix2 ⟨R0 + r.val, by omega⟩ k)) (W : Vec Ideal S768x64 .f32)
    (b : Vec Ideal S64 .f32) (r : Fin 256) (m : Fin 64) :
    linearV x W b (ix2 r m) = val_main_v3 (F := Ideal) X W b (ix2 ⟨R0 + r.val, by omega⟩ m : Logits.Idx) := by
  rw [referenceLinear, linearV, addf_apply, linear_sum, bias_apply]
  simp only [hx]

/-! ## The softplus -/

/-- `softplus` of an extended real, as jax spells it. -/
def softplus (z : EReal) : EReal := if z - 0 ≠ z - 0 then z + 0 else max z 0 + Ideal.log1p (Ideal.exp (-max (z - 0) (-(z - 0))))

theorem softplusV_apply (z : FVec Ideal S256x64 .f32) (i : S256x64.Idx) : softplusV z i = softplus (z i) := by
  have e : softplusV z i = Scalar.select (BitVec.ofBool (decide (z i - Ideal.ofBits .f32 0x00000000#32 ≠ z i - Ideal.ofBits .f32 0x00000000#32)))
      (z i + Ideal.ofBits .f32 0x00000000#32) (max (z i) (Ideal.ofBits .f32 0x00000000#32) + Ideal.log1p (Ideal.exp (Ideal.ofBits .f32 0x00000000#32
        - max (z i - Ideal.ofBits .f32 0x00000000#32) (-(z i - Ideal.ofBits .f32 0x00000000#32))))) := rfl
  rw [e, select_ofBool, Ideal.ofBits_zero_f32, zero_sub]
  rfl

theorem referenceSoftplus (X : Activations.Idx → EReal) (W : Vec Ideal S768x64 .f32) (b : Vec Ideal S64 .f32) (i : Logits.Idx) :
    val_main_v8 (F := Ideal) X W b i = softplus (val_main_v7 (F := Ideal) X W b i) := by
  have e : val_main_v8 (F := Ideal) X W b i = Scalar.select (BitVec.ofBool (decide (val_main_v7 (F := Ideal) X W b i - Ideal.ofBits .f32 0x00000000#32
        ≠ val_main_v7 (F := Ideal) X W b i - Ideal.ofBits .f32 0x00000000#32)))
      (val_main_v7 (F := Ideal) X W b i + Ideal.ofBits .f32 0x00000000#32)
      (max (val_main_v7 (F := Ideal) X W b i) (Ideal.ofBits .f32 0x00000000#32) + Ideal.log1p (Ideal.exp
        (-max (val_main_v7 (F := Ideal) X W b i - Ideal.ofBits .f32 0x00000000#32) (-(val_main_v7 (F := Ideal) X W b i - Ideal.ofBits .f32 0x00000000#32))))) := rfl
  rw [e, select_ofBool, Ideal.ofBits_zero_f32]
  rfl

theorem isReal_softplus {z : EReal} (hz : IsReal z) : IsReal (softplus z) := by
  obtain ⟨x, rfl⟩ := hz
  unfold softplus
  rw [if_neg (not_not.mpr rfl), ← EReal.coe_zero, ← EReal.coe_sub]
  refine ((IsReal.coe x).max (IsReal.coe 0)).add ?_
  obtain ⟨y, hy⟩ : IsReal (max ((x - 0 : ℝ) : EReal) (-((x - 0 : ℝ) : EReal))) := by
    rw [← EReal.coe_neg]
    exact (IsReal.coe _).max (IsReal.coe _)
  rw [hy, ← EReal.coe_neg, Ideal.exp_coe, Ideal.log1p, ← EReal.coe_one, ← EReal.coe_add, Ideal.log_coe,
    if_neg (by have := Real.exp_pos (-y); linarith)]
  exact IsReal.coe _

/-! ## The noisy logits -/

/-- The noisy logits of a row of a chunk are the reference's. -/
theorem noisy_eq (R0 : ℕ) (hR : R0 + 256 ≤ 32768) (X : Activations.Idx → EReal) (x : Vec Ideal S256x768 .f32)
    (hx : ∀ (r : Fin 256) (k : Fin 768), x (ix2 r k) = X (ix2 ⟨R0 + r.val, by omega⟩ k)) (Wg : Vec Ideal S768x64 .f32)
    (bg : Vec Ideal S64 .f32) (Wn : Vec Ideal S768x64 .f32) (bn : Vec Ideal S64 .f32) (r : Fin 256) (m : Fin 64) :
    noisyV (BitVec.ofNat 32 R0) x Wg bg Wn bn (ix2 r m)
      = val_main_v270 (F := Ideal) X Wg bg Wn bn (ix2 ⟨R0 + r.val, by omega⟩ m : Logits.Idx) := by
  rw [noisyV, addf_apply, mulf_apply, softplusV_apply, linear_eq R0 hR X x hx, linear_eq R0 hR X x hx, noise_eq R0 hR,
    val_main_v270_apply, val_main_v269_apply, referenceSoftplus]
  rfl

/-- The noisy logits of real arguments are real numbers. -/
theorem isReal_noisy {X : Activations.Idx → EReal} {Wg : Vec Ideal S768x64 .f32} {bg : Vec Ideal S64 .f32} {Wn : Vec Ideal S768x64 .f32}
    {bn : Vec Ideal S64 .f32} (hX : ∀ i, IsReal (X i)) (hWg : ∀ i, IsReal (Wg i)) (hbg : ∀ i, IsReal (bg i)) (hWn : ∀ i, IsReal (Wn i))
    (hbn : ∀ i, IsReal (bn i)) (R : Fin 32768) (m : Fin 64) : IsReal (val_main_v270 (F := Ideal) X Wg bg Wn bn (ix2 R m : Logits.Idx)) := by
  have hlin : ∀ (W : Vec Ideal S768x64 .f32) (b : Vec Ideal S64 .f32), (∀ i, IsReal (W i)) → (∀ i, IsReal (b i)) →
      IsReal (val_main_v3 (F := Ideal) X W b (ix2 R m : Logits.Idx)) := fun W b hW hb => by
    rw [referenceLinear]
    exact (IsReal.sum _ _ fun k _ => (hX _).mul (hW _)).add (hb _)
  rw [val_main_v270_apply, val_main_v269_apply, referenceSoftplus, referenceNoise, ← kernelEps_eq]
  exact (hlin Wg bg hWg hbg).add ((isReal_kernelEps _).mul (isReal_softplus (hlin Wn bn hWn hbn)))

end Cert.Router

end
-- ==== Proof.Selection.lean ====
/-
  The reference's three results over the extended reals, read at one row of noisy logits: the two greatest lanes, one at
  those lanes and zero elsewhere, and the softmax of the two greatest values.
-/
module

public import proofs.«01_k».proof.Proof.Noisy
public import Idealize.ShloMosaic.Lib.Routing.OpsSet

@[expose] public section

noncomputable section

namespace Cert.Router

open Idealize.ShloMosaic Idealize.ShloMosaic.ValueIdx Idealize.ShloMosaic.Routing Cert.ReferenceIdeal Cert.ReferenceIdeal.Gen Cert.ReferenceIdeal.Read

/-- Row `R` of an array of logits. -/
def rowAt (z : FVec Ideal Logits .f32) (R : Fin 32768) : Fin 64 → EReal := fun m => z (ix2 R m)

/-- The lane of the greatest, or of the second greatest. -/
def chosen (y : Fin 64 → EReal) (k : Fin 2) : Fin 64 := if k = 0 then first y else second y

theorem ranked_eq_chosen (y : Fin 64 → EReal) (k : Fin 2) : ranked y (k.castLE (by decide)) = chosen y k := by
  match k with
  | ⟨0, _⟩ => rfl
  | ⟨1, _⟩ => rfl

/-! ## The two greatest -/

attribute [local irreducible] sortedFrom

theorem along_lane (R : Fin 32768) (m m' : Fin 64) : Shape.Idx.along (ix2 R m : Logits.Idx) 1 m' = ix2 R m' :=
  Shape.idx_ext₂ rfl rfl

theorem sort_apply (z : FVec Ideal Logits .f32) (w : IVec Logits 32) (R : Fin 32768) (k : Fin 64) :
    (Host.sort2 Logits 1 (fun l r => FloatOps.cmpfTotal (F := Ideal) (φ := .f32) .gt l.1 r.1) z w).1 (ix2 R k) = rowAt z R (ranked (rowAt z R) k)
      ∧ (Host.sort2 Logits 1 (fun l r => FloatOps.cmpfTotal (F := Ideal) (φ := .f32) .gt l.1 r.1) z w).2 (ix2 R k)
        = w (ix2 R (ranked (rowAt z R) k)) := by
  have hf : (fun a b : Fin 64 => FloatOps.cmpfTotal (F := Ideal) (φ := .f32) .gt
        (z (Shape.Idx.along (ix2 R k : Logits.Idx) 1 a)) (z (Shape.Idx.along (ix2 R k : Logits.Idx) 1 b)) == 1#1)
      = sortsBefore (rowAt z R) := by
    funext a b
    exact congrArg₂ (fun u v => FloatOps.cmpfTotal (F := Ideal) (φ := .f32) .gt (z u) (z v) == 1#1) (along_lane R k a) (along_lane R k b)
  have hk : sortedFrom (fun a b : Fin 64 => FloatOps.cmpfTotal (F := Ideal) (φ := .f32) .gt
        (z (Shape.Idx.along (ix2 R k : Logits.Idx) 1 a)) (z (Shape.Idx.along (ix2 R k : Logits.Idx) 1 b)) == 1#1) k
      = ranked (rowAt z R) k := by
    rw [hf]
    exact (ranked_eq (rowAt z R) k).symm
  have hπ := (congrArg (Shape.Idx.along (ix2 R k : Logits.Idx) 1) hk).trans (along_lane R k _)
  unfold Host.sort2
  rw [dif_pos (show 1 < Logits.rank by decide)]
  exact ⟨congrArg z hπ, congrArg w hπ⟩

theorem topK_apply (z : FVec Ideal Logits .f32) (h : Logits.Slices (fun _ => 0) S32768x2) (R : Fin 32768) (k : Fin 2) :
    (Host.topK S32768x2 1 (FloatOps.cmpfTotal (F := Ideal) (φ := .f32) .gt) z h).1 (ix2 R k) = rowAt z R (chosen (rowAt z R) k)
      ∧ (Host.topK S32768x2 1 (FloatOps.cmpfTotal (F := Ideal) (φ := .f32) .gt) z h).2 (ix2 R k)
        = BitVec.ofNat 32 (chosen (rowAt z R) k).val := by
  rw [← ranked_eq_chosen]
  have hs : ∀ d : Fin Logits.rank, ((ix2 R (k.castLE (by decide) : Fin 64) : Logits.Idx) d).val
      = 0 + ((ix2 R k : S32768x2.Idx) (d.cast h.1.symm)).val := fun d => by
    match d with
    | ⟨0, _⟩ => exact (Nat.zero_add _).symm
    | ⟨1, _⟩ => exact (Nat.zero_add _).symm
  unfold Host.topK
  exact ⟨(extractStridedSlice_apply (s := Logits) (t := S32768x2) _ _ h (ix2 R k) _ hs).trans (sort_apply z (iotaInDim Logits 32 1) R _).1,
    (extractStridedSlice_apply (s := Logits) (t := S32768x2) _ _ h (ix2 R k) _ hs).trans (sort_apply z (iotaInDim Logits 32 1) R _).2⟩

section results

variable (X : Activations.Idx → EReal) (Wg : Vec Ideal Cert.KernelIdeal.S768x64 .f32) (bg : Vec Ideal Cert.KernelIdeal.S64 .f32)
  (Wn : Vec Ideal Cert.KernelIdeal.S768x64 .f32) (bn : Vec Ideal Cert.KernelIdeal.S64 .f32)

/-- Row `R` of the reference's noisy logits. -/
abbrev noisyRow (R : Fin 32768) : Fin 64 → EReal := rowAt (val_main_v270 (F := Ideal) X Wg bg Wn bn) R

theorem reference_indices (R : Fin 32768) (k : Fin 2) : val_main_indices (F := Ideal) X Wg bg Wn bn (ix2 R k)
    = BitVec.ofNat 32 (chosen (noisyRow X Wg bg Wn bn R) k).val :=
  (topK_apply _ _ R k).2

theorem reference_values (R : Fin 32768) (k : Fin 2) : val_main_values (F := Ideal) X Wg bg Wn bn (ix2 R k)
    = noisyRow X Wg bg Wn bn R (chosen (noisyRow X Wg bg Wn bn R) k) :=
  (topK_apply _ _ R k).1

/-! ## The mask -/

theorem scatter_row (R : Fin 32768) (b : Fin 2) :
    (val_main_v287 (F := Ideal) X Wg bg Wn bn (ix3 R b 0)) = BitVec.ofNat 32 R.val := by
  refine (concatenate_pair_apply_left (t := S32768x2x2) (s₁ := S32768x2x1) (s₂ := S32768x2x1) 2 _ _ _ _ rfl (ix3 R b 0)
    fun d => by match d with | ⟨0, _⟩ => rfl | ⟨1, _⟩ => rfl | ⟨2, _⟩ => rfl).trans ?_
  rw [val_main_v285_apply, val_main_v284_apply, val_main_v278_apply, val_main_v275_apply, val_main_v274_apply, val_main_c_87_apply,
    wrap_of_lt, val_main_v272_apply, val_main_v271_apply]
  rw [val_main_v272_apply, val_main_v271_apply, BitVec.toNat_ofNat]
  have := R.isLt
  show R.val % 2 ^ 32 < 2 ^ 31
  omega

theorem scatter_lane (R : Fin 32768) (b : Fin 2) :
    (val_main_v287 (F := Ideal) X Wg bg Wn bn (ix3 R b 1)) = BitVec.ofNat 32 (chosen (noisyRow X Wg bg Wn bn R) b).val := by
  refine (concatenate_pair_apply_right (t := S32768x2x2) (s₁ := S32768x2x1) (s₂ := S32768x2x1) 2 _ _ _ _ rfl rfl (ix3 R b 0)
    (fun d hd => by match d with | ⟨0, _⟩ => rfl | ⟨1, _⟩ => rfl | ⟨2, _⟩ => exact absurd rfl hd) rfl).trans ?_
  have e : idx_main_v286 (ix3 R b 0) = ix2 R b := Shape.idx_ext₂ rfl rfl
  rw [val_main_v286_apply, val_main_v283_apply, val_main_v280_apply, val_main_v279_apply, val_main_c_89_apply, e, reference_indices, wrap_of_lt]
  rw [BitVec.toNat_ofNat]
  have := (chosen (noisyRow X Wg bg Wn bn R) b).isLt
  show _ % 2 ^ 32 < 2 ^ 31
  omega

theorem toInt_small (n : ℕ) (h : n < 2 ^ 31) : (BitVec.ofNat 32 n).toInt = n := by
  rw [BitVec.toInt_eq_toNat_of_lt] <;> rw [BitVec.toNat_ofNat, Nat.mod_eq_of_lt (by omega)]
  omega

theorem scatter_lands (R' R : Fin 32768) (b : Fin 2) (m : Fin 64) :
    scatter_S32768x64_S32768x2x2_S32768x2_n_01_01_2.resultIdx? (ix2 R' b) (val_main_v287 (F := Ideal) X Wg bg Wn bn) = some (ix2 R m)
      ↔ R' = R ∧ chosen (noisyRow X Wg bg Wn bn R') b = m := by
  rw [scatter_lands2 scatter_S32768x64_S32768x2x2_S32768x2_n_01_01_2 rfl rfl rfl, scatter_row, scatter_lane,
    toInt_small _ (by have := R'.isLt; omega), toInt_small _ (by have := (chosen (noisyRow X Wg bg Wn bn R') b).isLt; omega),
    Nat.cast_inj, Nat.cast_inj, Fin.ext_iff, Fin.ext_iff]

theorem reference_mask (R : Fin 32768) (m : Fin 64) : val_main_v289 (F := Ideal) X Wg bg Wn bn (ix2 R m)
    = if m = first (noisyRow X Wg bg Wn bn R) ∨ m = second (noisyRow X Wg bg Wn bn R) then (1 : EReal) else 0 := by
  unfold val_main_v289
  have hit : ∀ b : Fin 2, chosen (noisyRow X Wg bg Wn bn R) b = m →
      Host.scatter scatter_S32768x64_S32768x2x2_S32768x2_n_01_01_2 (fun _ b => b) (val_main_v273 (F := Ideal))
        (val_main_v287 (F := Ideal) X Wg bg Wn bn) (val_main_v288 (F := Ideal)) (ix2 R m) = (1 : EReal) := fun b hb =>
    scatter_set_hit _ _ _ _ _ _ (fun k _ => by rw [val_main_v288_apply, val_main_cst_91_apply]; exact Ideal.ofBits_one_f32)
      (ix2 R b) ((scatter_lands X Wg bg Wn bn R R b m).mpr ⟨rfl, hb⟩)
  split
  · next h =>
    rcases h with h | h
    · exact hit 0 h.symm
    · exact hit 1 h.symm
  · next h =>
    refine (scatter_set_miss _ _ _ _ _ fun k hk => h ?_).trans ?_
    · rw [eq_ix2 k] at hk
      obtain ⟨hR, hm⟩ := (scatter_lands X Wg bg Wn bn _ _ _ _).mp hk
      rw [hR] at hm
      unfold chosen at hm
      split at hm
      · exact Or.inl hm.symm
      · exact Or.inr hm.symm
    · rw [val_main_v273_apply, val_main_cst_86_apply]
      exact Ideal.ofBits_zero_f32

/-! ## The weights -/

/-- The greatest of the two values is the first. -/
theorem reference_max (R : Fin 32768) : val_main_v292 (F := Ideal) X Wg bg Wn bn (ix1 R)
    = noisyRow X Wg bg Wn bn R (first (noisyRow X Wg bg Wn bn R)) := by
  have hle := (isFirst_first (noisyRow X Wg bg Wn bn R)).1
  have e : val_main_v290 (F := Ideal) X Wg bg Wn bn (ix1 R) = noisyRow X Wg bg Wn bn R (first (noisyRow X Wg bg Wn bn R)) := by
    unfold val_main_v290
    have red : S32768x2.Reduces [1] S32768 := by decide
    refine (Host.reduce_eq_fold_single (FloatOps.maximumf (F := Ideal) (φ := .f32)) _ _ reducesTo_S32768x2_S32768_d1 red h_S_ (ix1 R)).trans ?_
    have hl : ∀ k : Fin 2, red.lift (ix1 R) k = ix2 R k := fun k => Shape.idx_ext₂ rfl rfl
    have hf : val_main_values (F := Ideal) X Wg bg Wn bn ∘ red.lift (ix1 R)
        = fun k : Fin 2 => noisyRow X Wg bg Wn bn R (chosen (noisyRow X Wg bg Wn bn R) k) := funext fun k =>
      (congrArg (val_main_values (F := Ideal) X Wg bg Wn bn) (hl k)).trans (reference_values X Wg bg Wn bn R k)
    rw [hf]
    generalize noisyRow X Wg bg Wn bn R = y at hle ⊢
    refine le_antisymm ((Finset.fold_max_le _).mpr ⟨?_, fun k _ => ?_⟩) ((Finset.le_fold_max _).mpr (Or.inr ⟨(0 : Fin 2), Finset.mem_univ _, ?_⟩))
    · exact (le_of_eq bottom_value).trans bot_le
    · exact hle _
    · exact le_of_eq rfl
  rw [val_main_v292_apply, e, val_main_v291_apply, val_main_cst_93_apply]
  show max (Ideal.ofBits .f32 0xFF800000#32) _ = _
  rw [bottom_value]
  exact max_eq_right bot_le

variable {X Wg bg Wn bn}

theorem reference_exp {R : Fin 32768} (hz : ∀ m, IsReal (noisyRow X Wg bg Wn bn R m)) (k : Fin 2) : val_main_v296 (F := Ideal) X Wg bg Wn bn (ix2 R k)
    = if k = 0 then 1 else Ideal.exp (noisyRow X Wg bg Wn bn R (second (noisyRow X Wg bg Wn bn R)) - noisyRow X Wg bg Wn bn R (first (noisyRow X Wg bg Wn bn R))) := by
  have e : idx_main_v293 (idx_main_v294 (ix2 R k)) = ix1 R := by funext d; match d with | ⟨0, _⟩ => rfl
  rw [val_main_v296_apply, val_main_v295_apply, val_main_v294_apply, val_main_v293_apply, e, reference_max, reference_values]
  show Ideal.exp (_ - _) = _
  unfold chosen
  split
  · obtain ⟨x, hx⟩ := hz (first (noisyRow X Wg bg Wn bn R))
    rw [hx, ← EReal.coe_sub, sub_self, Ideal.exp_coe, Real.exp_zero, EReal.coe_one]
  · rfl

theorem reference_weights {R : Fin 32768} (hz : ∀ m, IsReal (noisyRow X Wg bg Wn bn R m)) (k : Fin 2) : val_main_v300 (F := Ideal) X Wg bg Wn bn (ix2 R k)
    = Ideal.div (if k = 0 then 1 else Ideal.exp (noisyRow X Wg bg Wn bn R (second (noisyRow X Wg bg Wn bn R)) - noisyRow X Wg bg Wn bn R (first (noisyRow X Wg bg Wn bn R))))
      (1 + Ideal.exp (noisyRow X Wg bg Wn bn R (second (noisyRow X Wg bg Wn bn R)) - noisyRow X Wg bg Wn bn R (first (noisyRow X Wg bg Wn bn R)))) := by
  have e : ∀ k', idx_main_v297 (idx_main_v298 (idx_main_v299 (ix2 R k))) k' = ix2 R k' := fun k' => Shape.idx_ext₂ rfl rfl
  rw [val_main_v300_apply, val_main_v299_apply, val_main_v298_apply, val_main_v297_apply, Fin.sum_univ_two, e, e, reference_exp hz, reference_exp hz,
    reference_exp hz, val_main_cst_94_apply]
  show Ideal.div _ (Ideal.ofBits .f32 0x00000000#32 + _) = _
  rw [Ideal.ofBits_zero_f32, zero_add]
  rfl

end results

end Cert.Router

end
-- ==== Proof.Rows.lean ====
/-
  A block of the kernel's outputs. The block of a grid point is filled by eight chunks of rows, and each chunk holds the
  reference's rows at its place, so the block is the reference's block.
-/
module

public import proofs.«01_k».proof.Proof.Blocks
public import proofs.«01_k».proof.Proof.Selection
public import Idealize.ShloMosaic.Lib.Pipeline.Value

@[expose] public section

noncomputable section

namespace Cert.Router

open Idealize.ShloMosaic Idealize.ShloMosaic.ValueIdx Cert.KernelIdeal Cert.KernelIdeal.Gen Cert.ReferenceIdeal.Read

/-- The rows of an array that the block of grid point `i` holds. -/
def blockOf {α : Type} {n : ℕ} (A : (⟨2, ![32768, n]⟩ : Shape).Idx → α) (i : grid0.Coords) : (⟨2, ![2048, n]⟩ : Shape).Idx → α :=
  fun y => A (ix2 ⟨2048 * (i 0).val + (y 0).val, by have h : (i 0).val < 16 := (i 0).isLt; have h' : (y 0).val < 2048 := (y 0).isLt; omega⟩ (y 1))

/-- The first row of a chunk. -/
theorem chunkRow_eq (i : grid0.Coords) (o : ℕ) : chunkRow i (BitVec.ofNat 32 o) = BitVec.ofNat 32 (2048 * (i 0).val + o) := by
  show BitVec.ofNat 32 (i 0).val * 2048#32 + BitVec.ofNat 32 o = _
  rw [← BitVec.ofNat_mul, ← BitVec.ofNat_add, Nat.mul_comm]

theorem zero2 : (![0, 0] : Fin 2 → ℕ) = fun _ => 0 := by funext a; fin_cases a <;> rfl
theorem zero1 : (![0] : Fin 1 → ℕ) = fun _ => 0 := by funext a; fin_cases a; rfl

section
variable (i : grid0.Coords) (X : Activations.Idx → EReal) (Wg : Vec Ideal S768x64 .f32) (bg : Vec Ideal S64 .f32)
  (Wn : Vec Ideal S768x64 .f32) (bn : Vec Ideal S64 .f32)

/-- Row `o + r` of the block, as a row of the whole array. -/
def rowIn (o : ℕ) (ho : o + 256 ≤ 2048) (r : Fin 256) : Fin 32768 :=
  ⟨2048 * (i 0).val + o + r.val, by have h : (i 0).val < 16 := (i 0).isLt; omega⟩

/-- A row of a chunk's noisy logits is the reference's row. -/
theorem rowOf_chunk (o : ℕ) (ho : o + 256 ≤ 2048) (inb : ∀ a, ![o, 0] a + S256x768.size a ≤ S2048x768.size a) (r : Fin 256) :
    rowOf (chunkV (F := Ideal) i (BitVec.ofNat 32 o)
        (View.ld (blockOf X i : Vec Ideal S2048x768 .f32) (Rect.unit (s := S2048x768) ![o, 0] S256x768.size inb)) Wg bg Wn bn) r
      = noisyRow X Wg bg Wn bn (rowIn i o ho r) := by
  have hi : (i 0).val < 16 := (i 0).isLt
  funext m
  unfold rowOf chunkV
  rw [chunkRow_eq, View.ld_unit_zero zero2, View.ld_unit_zero zero1, View.ld_unit_zero zero2, View.ld_unit_zero zero1]
  refine noisy_eq (2048 * (i 0).val + o) (by omega) X _ (fun r k => ?_) Wg bg Wn bn r m
  refine congrArg X (Shape.idx_ext₂ ?_ ?_)
  · show 2048 * (i 0).val + (o + 1 * r.val) = 2048 * (i 0).val + o + r.val
    omega
  · show 0 + 1 * k.val = k.val
    omega

/-- A chunk of an array's rows, taken through the block. -/
theorem blockOf_piece {α : Type} {n : ℕ} (A : (⟨2, ![32768, n]⟩ : Shape).Idx → α) (o : ℕ) (ho : o + 256 ≤ 2048)
    (inb : ∀ a, ![o, 0] a + ![256, n] a ≤ (⟨2, ![2048, n]⟩ : Shape).size a) (r : Fin 256) (k : Fin n) :
    blockOf A i ((Rect.unit (s := ⟨2, ![2048, n]⟩) ![o, 0] ![256, n] inb).emb (ix2 r k)) = A (ix2 (rowIn i o ho r) k) := by
  refine congrArg A (Shape.idx_ext₂ ?_ ?_)
  · show 2048 * (i 0).val + (o + 1 * r.val) = 2048 * (i 0).val + o + r.val
    omega
  · show 0 + 1 * k.val = k.val
    omega

variable (hX : ∀ j, IsReal (X j)) (hWg : ∀ j, IsReal (Wg j)) (hbg : ∀ j, IsReal (bg j)) (hWn : ∀ j, IsReal (Wn j)) (hbn : ∀ j, IsReal (bn j))
include hX hWg hbg hWn hbn

/-- The noisy logits of a row of real arguments are real. -/
theorem isReal_row (R : Fin 32768) (m : Fin 64) : IsReal (noisyRow X Wg bg Wn bn R m) := isReal_noisy hX hWg hbg hWn hbn R m

/-- A chunk's weights are the reference's at its rows. -/
theorem weights_piece (o : ℕ) (ho : o + 256 ≤ 2048) (inb : ∀ a, ![o, 0] a + S256x768.size a ≤ S2048x768.size a)
    (inb' : ∀ a, ![o, 0] a + S256x2.size a ≤ S2048x2.size a) (x : S256x2.Idx) :
    weightsV (chunkV (F := Ideal) i (BitVec.ofNat 32 o)
        (View.ld (blockOf X i : Vec Ideal S2048x768 .f32) (Rect.unit (s := S2048x768) ![o, 0] S256x768.size inb)) Wg bg Wn bn) x
      = blockOf (val_main_v300 (F := Ideal) X Wg bg Wn bn) i ((Rect.unit (s := S2048x2) ![o, 0] S256x2.size inb').emb x) := by
  obtain ⟨r, k, rfl⟩ : ∃ r k, x = ix2 r k := ⟨x 0, x 1, Shape.idx_ext₂ rfl rfl⟩
  have hrow := rowOf_chunk i X Wg bg Wn bn o ho inb r
  have hz := isReal_row X Wg bg Wn bn hX hWg hbg hWn hbn (rowIn i o ho r)
  rw [weightsV_eq (hrow ▸ hz), hrow]
  exact (reference_weights hz k).symm.trans (blockOf_piece i _ o ho inb' r k).symm

/-- A chunk's lane numbers are the reference's at its rows. -/
theorem indices_piece (o : ℕ) (ho : o + 256 ≤ 2048) (inb : ∀ a, ![o, 0] a + S256x768.size a ≤ S2048x768.size a)
    (inb' : ∀ a, ![o, 0] a + S256x2.size a ≤ S2048x2.size a) (x : S256x2.Idx) :
    indicesV (chunkV (F := Ideal) i (BitVec.ofNat 32 o)
        (View.ld (blockOf X i : Vec Ideal S2048x768 .f32) (Rect.unit (s := S2048x768) ![o, 0] S256x768.size inb)) Wg bg Wn bn) x
      = blockOf (val_main_indices (F := Ideal) X Wg bg Wn bn) i ((Rect.unit (s := S2048x2) ![o, 0] S256x2.size inb').emb x) := by
  obtain ⟨r, k, rfl⟩ : ∃ r k, x = ix2 r k := ⟨x 0, x 1, Shape.idx_ext₂ rfl rfl⟩
  have hrow := rowOf_chunk i X Wg bg Wn bn o ho inb r
  have hz := isReal_row X Wg bg Wn bn hX hWg hbg hWn hbn (rowIn i o ho r)
  rw [indicesV_eq (hrow ▸ hz), hrow]
  exact (reference_indices X Wg bg Wn bn _ k).symm.trans (blockOf_piece i _ o ho inb' r k).symm

/-- A chunk's mask is the reference's at its rows. -/
theorem mask_piece (o : ℕ) (ho : o + 256 ≤ 2048) (inb : ∀ a, ![o, 0] a + S256x768.size a ≤ S2048x768.size a)
    (inb' : ∀ a, ![o, 0] a + S256x64.size a ≤ S2048x64.size a) (x : S256x64.Idx) :
    maskV (chunkV (F := Ideal) i (BitVec.ofNat 32 o)
        (View.ld (blockOf X i : Vec Ideal S2048x768 .f32) (Rect.unit (s := S2048x768) ![o, 0] S256x768.size inb)) Wg bg Wn bn) x
      = blockOf (val_main_v289 (F := Ideal) X Wg bg Wn bn) i ((Rect.unit (s := S2048x64) ![o, 0] S256x64.size inb').emb x) := by
  obtain ⟨r, k, rfl⟩ : ∃ r k, x = ix2 r k := ⟨x 0, x 1, Shape.idx_ext₂ rfl rfl⟩
  have hrow := rowOf_chunk i X Wg bg Wn bn o ho inb r
  have hz := isReal_row X Wg bg Wn bn hX hWg hbg hWn hbn (rowIn i o ho r)
  rw [maskV_eq (hrow ▸ hz), hrow]
  exact (reference_mask X Wg bg Wn bn _ k).symm.trans (blockOf_piece i _ o ho inb' r k).symm

/-! ## The blocks -/

/-- The weights' block is the reference's. -/
theorem weights_block : out0_5 (F := Ideal) i (blockOf X i) Wg bg Wn bn = blockOf (val_main_v300 (F := Ideal) X Wg bg Wn bn) i := by
  rw [out5_eq]
  funext y
  refine View.canon_apply_of_pieces _ _ (fun p hp x => ?_) y (cover0_5 _ _ _ _ _ _ _ _ y)
  simp only [List.mem_cons, List.mem_nil_iff, or_false] at hp
  rcases hp with rfl | rfl | rfl | rfl | rfl | rfl | rfl | rfl <;>
    exact weights_piece i X Wg bg Wn bn hX hWg hbg hWn hbn _ (by decide) (by decide) (by decide) x

/-- The lane numbers' block is the reference's. -/
theorem indices_block : out0_6 (F := Ideal) i (blockOf X i) Wg bg Wn bn = blockOf (val_main_indices (F := Ideal) X Wg bg Wn bn) i := by
  rw [out6_eq]
  funext y
  refine View.canon_apply_of_pieces _ _ (fun p hp x => ?_) y (cover0_6 _ _ _ _ _ _ _ _ y)
  simp only [List.mem_cons, List.mem_nil_iff, or_false] at hp
  rcases hp with rfl | rfl | rfl | rfl | rfl | rfl | rfl | rfl <;>
    exact indices_piece i X Wg bg Wn bn hX hWg hbg hWn hbn _ (by decide) (by decide) (by decide) x

/-- The mask's block is the reference's. -/
theorem mask_block : out0_7 (F := Ideal) i (blockOf X i) Wg bg Wn bn = blockOf (val_main_v289 (F := Ideal) X Wg bg Wn bn) i := by
  rw [out7_eq]
  funext y
  refine View.canon_apply_of_pieces _ _ (fun p hp x => ?_) y (cover0_7 _ _ _ _ _ _ _ _ y)
  simp only [List.mem_cons, List.mem_nil_iff, or_false] at hp
  rcases hp with rfl | rfl | rfl | rfl | rfl | rfl | rfl | rfl <;>
    exact mask_piece i X Wg bg Wn bn hX hWg hbg hWn hbn _ (by decide) (by decide) (by decide) x

end

end Cert.Router

end
-- ==== Proof.Arrays.lean ====
/-
  The kernel's arrays. Each grid point's blocks are rows of the arguments and of the results, and the blocks written
  back cover the results, so each result of the kernel is the reference's.
-/
module

public import proofs.«01_k».proof.Proof.Rows
public import proofs.«01_k».proof.Proof.Gen.KernelIdeal.Value
public import Idealize.ShloMosaic.Lib.Pipeline.ValueKit

@[expose] public section

noncomputable section

namespace Cert.Router

open Idealize.ShloMosaic Idealize.ShloMosaic.TcCoe Idealize.ShloMosaic.ValueIdx Idealize.SL.Sem Cert.KernelIdeal Cert.KernelIdeal.Gen
  Cert.ReferenceIdeal.Read

/-- Where the windows lie: the tiled ones at the grid point's own number, the others at zero. -/
theorem place_rows : ∀ t : Fin cfg0.N,
    (win0_0.index t 0 = (grid0.coords t 0).val ∧ win0_0.index t 1 = 0) ∧ (win0_5.index t 0 = (grid0.coords t 0).val ∧ win0_5.index t 1 = 0)
      ∧ (win0_6.index t 0 = (grid0.coords t 0).val ∧ win0_6.index t 1 = 0) ∧ (win0_7.index t 0 = (grid0.coords t 0).val ∧ win0_7.index t 1 = 0) :=
  (by decide +kernel : ∀ t : Fin grid0.N,
    (win0_0.index t 0 = (grid0.coords t 0).val ∧ win0_0.index t 1 = 0) ∧ (win0_5.index t 0 = (grid0.coords t 0).val ∧ win0_5.index t 1 = 0)
      ∧ (win0_6.index t 0 = (grid0.coords t 0).val ∧ win0_6.index t 1 = 0) ∧ (win0_7.index t 0 = (grid0.coords t 0).val ∧ win0_7.index t 1 = 0))

theorem place_whole : ∀ t : Fin cfg0.N, (win0_1.index t 0 = 0 ∧ win0_1.index t 1 = 0) ∧ win0_2.index t 0 = 0
      ∧ (win0_3.index t 0 = 0 ∧ win0_3.index t 1 = 0) ∧ win0_4.index t 0 = 0 :=
  (by decide +kernel : ∀ t : Fin grid0.N, (win0_1.index t 0 = 0 ∧ win0_1.index t 1 = 0) ∧ win0_2.index t 0 = 0
      ∧ (win0_3.index t 0 = 0 ∧ win0_3.index t 1 = 0) ∧ win0_4.index t 0 = 0)

variable (m : (ℓ : Loc nD τ sig) → Buf (Elt Ideal) ℓ) (c : Dev nD)

/-! ## The input blocks -/

/-- The activations' block is its rows of the argument. -/
theorem block_x (t : Fin cfg0.N) : iblk m c 0 t = blockOf (m ((c : Thread nD τ).loc main_arg0)) (grid0.coords t) := by
  funext y
  refine congrArg (m ((c : Thread nD τ).loc main_arg0)) (Shape.idx_ext₂ ?_ ?_)
  · refine (win0_0.rect_emb_val t y 0).trans ?_
    rw [(place_rows t).1.1]
    show _ * 2048 + _ = 2048 * _ + _
    rw [Nat.mul_comm]
  · exact win0_0.rect_emb_val_of_index_zero t 1 (place_rows t).1.2 y

theorem block_Wg (t : Fin cfg0.N) : iblk m c 1 t = m ((c : Thread nD τ).loc main_arg1) := by
  funext y
  exact congrArg (m ((c : Thread nD τ).loc main_arg1)) (Shape.idx_ext₂ (win0_1.rect_emb_val_of_index_zero t 0 (place_whole t).1.1 y)
    (win0_1.rect_emb_val_of_index_zero t 1 (place_whole t).1.2 y))

theorem block_Wn (t : Fin cfg0.N) : iblk m c 3 t = m ((c : Thread nD τ).loc main_arg3) := by
  funext y
  exact congrArg (m ((c : Thread nD τ).loc main_arg3)) (Shape.idx_ext₂ (win0_3.rect_emb_val_of_index_zero t 0 (place_whole t).2.2.1.1 y)
    (win0_3.rect_emb_val_of_index_zero t 1 (place_whole t).2.2.1.2 y))

theorem block_bg (t : Fin cfg0.N) : iblk m c 2 t = m ((c : Thread nD τ).loc main_arg2) := by
  funext y
  refine congrArg (m ((c : Thread nD τ).loc main_arg2)) (funext fun d => ?_)
  match d with
  | ⟨0, _⟩ => exact Fin.ext (win0_2.rect_emb_val_of_index_zero t 0 (place_whole t).2.1 y)

theorem block_bn (t : Fin cfg0.N) : iblk m c 4 t = m ((c : Thread nD τ).loc main_arg4) := by
  funext y
  refine congrArg (m ((c : Thread nD τ).loc main_arg4)) (funext fun d => ?_)
  match d with
  | ⟨0, _⟩ => exact Fin.ext (win0_4.rect_emb_val_of_index_zero t 0 (place_whole t).2.2.2 y)

/-! ## The results -/

variable (hX : ∀ j, IsReal (m ((c : Thread nD τ).loc main_arg0) j)) (hWg : ∀ j, IsReal (m ((c : Thread nD τ).loc main_arg1) j))
  (hbg : ∀ j, IsReal (m ((c : Thread nD τ).loc main_arg2) j)) (hWn : ∀ j, IsReal (m ((c : Thread nD τ).loc main_arg3) j))
  (hbn : ∀ j, IsReal (m ((c : Thread nD τ).loc main_arg4) j))
include hX hWg hbg hWn hbn

/-- The kernel's weights are the reference's. -/
theorem final_weights : (dats m 0 c).arrAt 5 cfg0.N = val_main_v300 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel : win0_5.Covers) (fun t _ y => ?_)
  rw [after0_5, block_x, block_Wg, block_bg, block_Wn, block_bn]
  refine (congrFun (weights_block (grid0.coords t) _ _ _ _ _ hX hWg hbg hWn hbn) y).trans ?_
  refine congrArg (val_main_v300 (F := Ideal) _ _ _ _ _) (Shape.idx_ext₂ ?_ ?_)
  · refine Eq.trans ?_ (win0_5.rect_emb_val t y 0).symm
    rw [(place_rows t).2.1.1]
    show 2048 * _ + _ = _ * 2048 + _
    rw [Nat.mul_comm]
  · exact (win0_5.rect_emb_val_of_index_zero t 1 (place_rows t).2.1.2 y).symm

/-- The kernel's lane numbers are the reference's. -/
theorem final_indices : (dats m 0 c).arrAt 6 cfg0.N = val_main_indices (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel : win0_6.Covers) (fun t _ y => ?_)
  rw [after0_6, block_x, block_Wg, block_bg, block_Wn, block_bn]
  refine (congrFun (indices_block (grid0.coords t) _ _ _ _ _ hX hWg hbg hWn hbn) y).trans ?_
  refine congrArg (val_main_indices (F := Ideal) _ _ _ _ _) (Shape.idx_ext₂ ?_ ?_)
  · refine Eq.trans ?_ (win0_6.rect_emb_val t y 0).symm
    rw [(place_rows t).2.2.1.1]
    show 2048 * _ + _ = _ * 2048 + _
    rw [Nat.mul_comm]
  · exact (win0_6.rect_emb_val_of_index_zero t 1 (place_rows t).2.2.1.2 y).symm

/-- The kernel's mask is the reference's. -/
theorem final_mask : (dats m 0 c).arrAt 7 cfg0.N = val_main_v289 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 7 _ (by decide +kernel : win0_7.Covers) (fun t _ y => ?_)
  rw [after0_7, block_x, block_Wg, block_bg, block_Wn, block_bn]
  refine (congrFun (mask_block (grid0.coords t) _ _ _ _ _ hX hWg hbg hWn hbn) y).trans ?_
  refine congrArg (val_main_v289 (F := Ideal) _ _ _ _ _) (Shape.idx_ext₂ ?_ ?_)
  · refine Eq.trans ?_ (win0_7.rect_emb_val t y 0).symm
    rw [(place_rows t).2.2.2.1]
    show 2048 * _ + _ = _ * 2048 + _
    rw [Nat.mul_comm]
  · exact (win0_7.rect_emb_val_of_index_zero t 1 (place_rows t).2.2.2.2 y).symm

end Cert.Router

end
-- ==== Proof.lean ====
/-
  The proof of `Cert.Claim`. The frames of the kernel are the generated ones, and the reference's is its generated run
  read at the arguments. The ideal program is the kernel's own text, so `preserves` states nothing more. For `algebraic`,
  the precondition makes every argument real (Precondition), the kernel's three arrays are then the reference's
  (Arrays), and the reference's run ends with the same three.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Precondition
public import proofs.«01_k».proof.Proof.Arrays
public import Idealize.ShloMosaic.Lib.Quiescent
public import Idealize.ShloMosaic.Lib.Claim

@[expose] public section

noncomputable section

namespace Cert.Proof

open Idealize.ShloMosaic Idealize.SL.Sem Cert.Router

/-- The reference runs, leaves its arguments unchanged, and declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel and the reference compute the same three arrays from real arguments. -/
theorem algebraic : Cert.algebraic_KernelIdeal_ReferenceIdeal_pre_finite (hPre_finite := finiteFacts) := by
  intro m g m' g' hpre hagree
  haveI := finiteFacts
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks (F := Ideal) m g,
    (θ_run Cert.ReferenceIdeal.defs _ _).mono (fun r h c => ?_) (Cert.ReferenceIdeal.Value.run (F := Ideal) m' g')⟩
  obtain ⟨hX, hWg, hbg, hWn, hbn⟩ := isReal_of_finite _ _ _ _ _ (hpre c)
  obtain ⟨a0, a1, a2, a3, a4⟩ := hagree c
  obtain ⟨h0, h1, h2, hargs⟩ := h c
  refine ⟨h0.trans ((Cert.ReferenceIdeal.Read.val_main_v300_eq _).trans (Eq.trans ?_ (final_weights m c hX hWg hbg hWn hbn).symm)),
    h1.trans ((Cert.ReferenceIdeal.Read.val_main_indices_eq _).trans (Eq.trans ?_ (final_indices m c hX hWg hbg hWn hbn).symm)),
    h2.trans ((Cert.ReferenceIdeal.Read.val_main_v289_eq _).trans (Eq.trans ?_ (final_mask m c hX hWg hbg hWn hbn).symm)), hargs⟩ <;>
    exact congr (congr (congr (congr (congrArg _ a0) a1) a2) a3) a4

theorem claim : Cert.Claim :=
  ⟨Cert.Kernel.Gen.facts, Cert.KernelIdeal.Gen.facts, Cert.ReferenceIdeal.Gen.facts, finiteFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
